-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2x96x224x224 : Shape := ⟨4, ![2, 96, 224, 224]⟩
abbrev S96x96x9 : Shape := ⟨3, ![96, 96, 9]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S96x96x9 : S_.BroadcastsInDim S96x96x9 (![] : Fin 0 → Fin S96x96x9.rank)
  reducesTo_S96x96x9_S_d0_1_2 : S96x96x9.ReducesTo [0, 1, 2] S_

variable [Facts]

def fn {F : FTy → Type} [FloatOps F] (main_arg0 : FVec F S2x96x224x224 .f32) (main_arg1 : FVec F S96x96x9 .f32) (main_arg2 : FVec F S96x96x9 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x96x9 .f32 := Host.absf main_arg1
  let main_cst_0 : FVec F S_ .f32 := constant S_ .f32 0x7F800000#32
  let main_v5 : FVec F S96x96x9 .f32 := broadcastInDim S96x96x9 ![] bcast_S_S96x96x9 main_cst_0
  let main_v6 : IVec S96x96x9 1 := cmpf .olt main_v4 main_v5
  let main_c_1 : IVec S_ 1 := constantI S_ 1 1#1
  let main_v7 : IVec S_ 1 := (fun x v => Host.reduce IntOp.andi x v reducesTo_S96x96x9_S_d0_1_2 h_S_) main_v6 main_c_1
  let main_v8 : IVec S_ 1 := andi main_v3 main_v7
  let main_v9 : FVec F S96x96x9 .f32 := Host.absf main_arg2
  let main_cst_2 : FVec F S_ .f32 := constant S_ .f32 0x7F800000#32
  let main_v10 : FVec F S96x96x9 .f32 := broadcastInDim S96x96x9 ![] bcast_S_S96x96x9 main_cst_2
  let main_v11 : IVec S96x96x9 1 := cmpf .olt main_v9 main_v10
  let main_c_3 : IVec S_ 1 := constantI S_ 1 1#1
  let main_v12 : IVec S_ 1 := (fun x v => Host.reduce IntOp.andi x v reducesTo_S96x96x9_S_d0_1_2 h_S_) main_v11 main_c_3
  let main_v13 : IVec S_ 1 := andi main_v8 main_v12
  main_v13
-- ==== Kernel.lean ====
abbrev S2x96x224x224 : Shape := ⟨4, ![2, 96, 224, 224]⟩
abbrev S96x96x9 : Shape := ⟨3, ![96, 96, 9]⟩
abbrev S9x3x3 : Shape := ⟨3, ![9, 3, 3]⟩
abbrev S96x96x3x3 : Shape := ⟨4, ![96, 96, 3, 3]⟩
abbrev S96x96x1x1 : Shape := ⟨4, ![96, 96, 1, 1]⟩
abbrev S96x96 : Shape := ⟨2, ![96, 96]⟩
abbrev S96x288 : Shape := ⟨2, ![96, 288]⟩
abbrev S192x96 : Shape := ⟨2, ![192, 96]⟩
abbrev S_ : Shape := ⟨0, ![]⟩
abbrev S2x96x226x256 : Shape := ⟨4, ![2, 96, 226, 256]⟩
abbrev S96x226x256 : Shape := ⟨3, ![96, 226, 256]⟩
abbrev S96x16x224 : Shape := ⟨3, ![96, 16, 224]⟩
abbrev S1x96x226x256 : Shape := ⟨4, ![1, 96, 226, 256]⟩
abbrev S1x1x256 : Shape := ⟨3, ![1, 1, 256]⟩
abbrev S96x1x256 : Shape := ⟨3, ![96, 1, 256]⟩
abbrev S96x2x256 : Shape := ⟨3, ![96, 2, 256]⟩
abbrev S96 : Shape := ⟨1, ![96]⟩
abbrev S96x18x256 : Shape := ⟨3, ![96, 18, 256]⟩
abbrev S96x16x256 : Shape := ⟨3, ![96, 16, 256]⟩
abbrev S288x16x256 : Shape := ⟨3, ![288, 16, 256]⟩
abbrev S288x4096 : Shape := ⟨2, ![288, 4096]⟩
abbrev S96x4096 : Shape := ⟨2, ![96, 4096]⟩
abbrev S192x4096 : Shape := ⟨2, ![192, 4096]⟩
abbrev S96x1 : Shape := ⟨2, ![96, 1]⟩
abbrev S96x4095 : Shape := ⟨2, ![96, 4095]⟩
abbrev S96x1x1 : Shape := ⟨3, ![96, 1, 1]⟩
abbrev S96x17x256 : Shape := ⟨3, ![96, 17, 256]⟩
abbrev S1x96x16x224 : Shape := ⟨4, ![1, 96, 16, 224]⟩

abbrev nBuf : Space → Nat
  | .hbm => 39
  | .vmem => 7
  | .smem => 0
  | _ => 0

abbrev bufTy : (tb : Table) → Fin (tcTables nBuf tb) → BufTy
  | .hbm, ⟨0, _⟩ => ⟨S2x96x224x224, .f32⟩
  | .hbm, ⟨1, _⟩ => ⟨S96x96x9, .f32⟩
  | .hbm, ⟨2, _⟩ => ⟨S96x96x9, .f32⟩
  | .hbm, ⟨3, _⟩ => ⟨S9x3x3, .f32⟩
  | .hbm, ⟨4, _⟩ => ⟨S96x96x3x3, .f32⟩
  | .hbm, ⟨5, _⟩ => ⟨S96x96x3x3, .f32⟩
  | .hbm, ⟨6, _⟩ => ⟨S96x96x1x1, .f32⟩
  | .hbm, ⟨7, _⟩ => ⟨S96x96, .f32⟩
  | .hbm, ⟨8, _⟩ => ⟨S96x96x1x1, .f32⟩
  | .hbm, ⟨9, _⟩ => ⟨S96x96, .f32⟩
  | .hbm, ⟨10, _⟩ => ⟨S96x96x1x1, .f32⟩
  | .hbm, ⟨11, _⟩ => ⟨S96x96, .f32⟩
  | .hbm, ⟨12, _⟩ => ⟨S96x288, .f32⟩
  | .hbm, ⟨13, _⟩ => ⟨S96x96x1x1, .f32⟩
  | .hbm, ⟨14, _⟩ => ⟨S96x96, .f32⟩
  | .hbm, ⟨15, _⟩ => ⟨S96x96x1x1, .f32⟩
  | .hbm, ⟨16, _⟩ => ⟨S96x96, .f32⟩
  | .hbm, ⟨17, _⟩ => ⟨S96x96x1x1, .f32⟩
  | .hbm, ⟨18, _⟩ => ⟨S96x96, .f32⟩
  | .hbm, ⟨19, _⟩ => ⟨S96x288, .f32⟩
  | .hbm, ⟨20, _⟩ => ⟨S96x96x1x1, .f32⟩
  | .hbm, ⟨21, _⟩ => ⟨S96x96, .f32⟩
  | .hbm, ⟨22, _⟩ => ⟨S96x96x1x1, .f32⟩
  | .hbm, ⟨23, _⟩ => ⟨S96x96, .f32⟩
  | .hbm, ⟨24, _⟩ => ⟨S192x96, .f32⟩
  | .hbm, ⟨25, _⟩ => ⟨S96x96x1x1, .f32⟩
  | .hbm, ⟨26, _⟩ => ⟨S96x96, .f32⟩
  | .hbm, ⟨27, _⟩ => ⟨S96x96x1x1, .f32⟩
  | .hbm, ⟨28, _⟩ => ⟨S96x96, .f32⟩
  | .hbm, ⟨29, _⟩ => ⟨S192x96, .f32⟩
  | .hbm, ⟨30, _⟩ => ⟨S96x288, .bf16⟩
  | .hbm, ⟨31, _⟩ => ⟨S96x288, .bf16⟩
  | .hbm, ⟨32, _⟩ => ⟨S192x96, .bf16⟩
  | .hbm, ⟨33, _⟩ => ⟨S192x96, .bf16⟩
  | .hbm, ⟨34, _⟩ => ⟨S_, .i32⟩
  | .hbm, ⟨35, _⟩ => ⟨S_, .f32⟩
  | .hbm, ⟨36, _⟩ => ⟨S2x96x226x256, .f32⟩
  | .hbm, ⟨37, _⟩ => ⟨S2x96x226x256, .bf16⟩
  | .hbm, ⟨38, _⟩ => ⟨S2x96x224x224, .f32⟩
  | .local _ .vmem, ⟨0, _⟩ => ⟨S96x288, .bf16⟩
  | .local _ .vmem, ⟨1, _⟩ => ⟨S192x96, .bf16⟩
  | .local _ .vmem, ⟨2, _⟩ => ⟨S96x288, .bf16⟩
  | .local _ .vmem, ⟨3, _⟩ => ⟨S192x96, .bf16⟩
  | .local _ .vmem, ⟨4, _⟩ => ⟨S96x226x256, .bf16⟩
  | .local _ .vmem, ⟨5, _⟩ => ⟨S96x226x256, .bf16⟩
  | .local _ .vmem, ⟨6, _⟩ => ⟨S96x16x224, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c : Ref sig .tc := ⟨.hbm, 34, rfl⟩
abbrev main_call0_v0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![2], ![false]⟩

def k0_off1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, 0, 0, 0]
def k0_off2 (i : grid0.Coords) : Fin 4 → Nat :=
  let arg0 : BitVec 32 := BitVec.ofNat 32 (i 0).val
  let c0_i32_388 : BitVec 32 := 0#32
  let c0_i32_389 : BitVec 32 := 0#32
  let c0_i32_390 : BitVec 32 := 0#32
  ![arg0.toNat, 0, 0, 0]
def k0_off3 (i : grid0.Coords) : Fin 4 → Nat :=
  let arg0 : BitVec 32 := BitVec.ofNat 32 (i 0).val
  let c0_i32_402 : BitVec 32 := 0#32
  let c16_i32 : BitVec 32 := 16#32
  let c0_i32_403 : BitVec 32 := 0#32
  ![arg0.toNat, 0, 16, 0]
def k0_off4 (i : grid0.Coords) : Fin 4 → Nat :=
  let arg0 : BitVec 32 := BitVec.ofNat 32 (i 0).val
  let c0_i32_415 : BitVec 32 := 0#32
  let c32_i32 : BitVec 32 := 32#32
  let c0_i32_416 : BitVec 32 := 0#32
  ![arg0.toNat, 0, 32, 0]
def k0_off5 (i : grid0.Coords) : Fin 4 → Nat :=
  let arg0 : BitVec 32 := BitVec.ofNat 32 (i 0).val
  let c0_i32_428 : BitVec 32 := 0#32
  let c48_i32 : BitVec 32 := 48#32
  let c0_i32_429 : BitVec 32 := 0#32
  ![arg0.toNat, 0, 48, 0]
def k0_off6 (i : grid0.Coords) : Fin 4 → Nat :=
  let arg0 : BitVec 32 := BitVec.ofNat 32 (i 0).val
  let c0_i32_441 : BitVec 32 := 0#32
  let c64_i32 : BitVec 32 := 64#32
  let c0_i32_442 : BitVec 32 := 0#32
  ![arg0.toNat, 0, 64, 0]
def k0_off7 (i : grid0.Coords) : Fin 4 → Nat :=
  let arg0 : BitVec 32 := BitVec.ofNat 32 (i 0).val
  let c0_i32_454 : BitVec 32 := 0#32
  let c80_i32 : BitVec 32 := 80#32
  let c0_i32_455 : BitVec 32 := 0#32
  ![arg0.toNat, 0, 80, 0]
def k0_off8 (i : grid0.Coords) : Fin 4 → Nat :=
  let arg0 : BitVec 32 := BitVec.ofNat 32 (i 0).val
  let c0_i32_467 : BitVec 32 := 0#32
  let c96_i32 : BitVec 32 := 96#32
  let c0_i32_468 : BitVec 32 := 0#32
  ![arg0.toNat, 0, 96, 0]
def k0_off9 (i : grid0.Coords) : Fin 4 → Nat :=
  let arg0 : BitVec 32 := BitVec.ofNat 32 (i 0).val
  let c0_i32_480 : BitVec 32 := 0#32
  let c112_i32 : BitVec 32 := 112#32
  let c0_i32_481 : BitVec 32 := 0#32
  ![arg0.toNat, 0, 112, 0]
def k0_off10 (i : grid0.Coords) : Fin 4 → Nat :=
  let arg0 : BitVec 32 := BitVec.ofNat 32 (i 0).val
  let c0_i32_493 : BitVec 32 := 0#32
  let c128_i32 : BitVec 32 := 128#32
  let c0_i32_494 : BitVec 32 := 0#32
  ![arg0.toNat, 0, 128, 0]
def k0_off11 (i : grid0.Coords) : Fin 4 → Nat :=
  let arg0 : BitVec 32 := BitVec.ofNat 32 (i 0).val
  let c0_i32_506 : BitVec 32 := 0#32
  let c144_i32 : BitVec 32 := 144#32
  let c0_i32_507 : BitVec 32 := 0#32
  ![arg0.toNat, 0, 144, 0]
def k0_off12 (i : grid0.Coords) : Fin 4 → Nat :=
  let arg0 : BitVec 32 := BitVec.ofNat 32 (i 0).val
  let c0_i32_519 : BitVec 32 := 0#32
  let c160_i32 : BitVec 32 := 160#32
  let c0_i32_520 : BitVec 32 := 0#32
  ![arg0.toNat, 0, 160, 0]
def k0_off13 (i : grid0.Coords) : Fin 4 → Nat :=
  let arg0 : BitVec 32 := BitVec.ofNat 32 (i 0).val
  let c0_i32_532 : BitVec 32 := 0#32
  let c176_i32 : BitVec 32 := 176#32
  let c0_i32_533 : BitVec 32 := 0#32
  ![arg0.toNat, 0, 176, 0]
def k0_off14 (i : grid0.Coords) : Fin 4 → Nat :=
  let arg0 : BitVec 32 := BitVec.ofNat 32 (i 0).val
  let c0_i32_545 : BitVec 32 := 0#32
  let c192_i32 : BitVec 32 := 192#32
  let c0_i32_546 : BitVec 32 := 0#32
  ![arg0.toNat, 0, 192, 0]
def k0_off15 (i : grid0.Coords) : Fin 4 → Nat :=
  let arg0 : BitVec 32 := BitVec.ofNat 32 (i 0).val
  let c0_i32_558 : BitVec 32 := 0#32
  let c208_i32 : BitVec 32 := 208#32
  let c0_i32_559 : BitVec 32 := 0#32
  ![arg0.toNat, 0, 208, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x96x224x224 : Shape := ⟨4, ![2, 96, 224, 224]⟩
abbrev S96x96x9 : Shape := ⟨3, ![96, 96, 9]⟩
abbrev S9x3x3 : Shape := ⟨3, ![9, 3, 3]⟩
abbrev S96x96x3x3 : Shape := ⟨4, ![96, 96, 3, 3]⟩
abbrev S_ : Shape := ⟨0, ![]⟩
abbrev S2x96x226x226 : Shape := ⟨4, ![2, 96, 226, 226]⟩
abbrev S96x96x1x1 : Shape := ⟨4, ![96, 96, 1, 1]⟩
abbrev S96x96 : Shape := ⟨2, ![96, 96]⟩
abbrev S2x224x224x96 : Shape := ⟨4, ![2, 224, 224, 96]⟩
abbrev S2x96 : Shape := ⟨2, ![2, 96]⟩
abbrev S2x96x1x1 : Shape := ⟨4, ![2, 96, 1, 1]⟩

abbrev nBuf : Space → Nat
  | .hbm => 214
  | .vmem => 0
  | .smem => 0
  | _ => 0

abbrev hbmTy0_0 (i : Nat) : BufTy := match i % 128 with
  | 0 => ⟨S2x96x224x224, .f32⟩
  | 1 => ⟨S96x96x9, .f32⟩
  | 2 => ⟨S96x96x9, .f32⟩
  | 3 => ⟨S9x3x3, .f32⟩
  | 4 => ⟨S96x96x3x3, .f32⟩
  | 5 => ⟨S_, .i32⟩
  | 6 => ⟨S_, .f32⟩
  | 7 => ⟨S2x96x226x226, .f32⟩
  | 8 => ⟨S96x96x1x1, .f32⟩
  | 9 => ⟨S96x96, .f32⟩
  | 10 => ⟨S2x96x224x224, .f32⟩
  | 11 => ⟨S2x224x224x96, .f32⟩
  | 12 => ⟨S2x96x224x224, .f32⟩
  | 13 => ⟨S_, .f32⟩
  | 14 => ⟨S2x96x224x224, .f32⟩
  | 15 => ⟨S2x96x224x224, .f32⟩
  | 16 => ⟨S96x96x1x1, .f32⟩
  | 17 => ⟨S96x96, .f32⟩
  | 18 => ⟨S2x96x224x224, .f32⟩
  | 19 => ⟨S2x224x224x96, .f32⟩
  | 20 => ⟨S2x96x224x224, .f32⟩
  | 21 => ⟨S2x96x224x224, .f32⟩
  | 22 => ⟨S96x96x1x1, .f32⟩
  | 23 => ⟨S96x96, .f32⟩
  | 24 => ⟨S2x96x224x224, .f32⟩
  | 25 => ⟨S2x224x224x96, .f32⟩
  | 26 => ⟨S2x96x224x224, .f32⟩
  | 27 => ⟨S2x96x224x224, .f32⟩
  | 28 => ⟨S96x96x1x1, .f32⟩
  | 29 => ⟨S96x96, .f32⟩
  | 30 => ⟨S2x96x224x224, .f32⟩
  | 31 => ⟨S2x224x224x96, .f32⟩
  | 32 => ⟨S2x96x224x224, .f32⟩
  | 33 => ⟨S2x96x224x224, .f32⟩
  | 34 => ⟨S96x96x1x1, .f32⟩
  | 35 => ⟨S96x96, .f32⟩
  | 36 => ⟨S2x96x224x224, .f32⟩
  | 37 => ⟨S2x224x224x96, .f32⟩
  | 38 => ⟨S2x96x224x224, .f32⟩
  | 39 => ⟨S2x96x224x224, .f32⟩
  | 40 => ⟨S96x96x1x1, .f32⟩
  | 41 => ⟨S96x96, .f32⟩
  | 42 => ⟨S2x96x224x224, .f32⟩
  | 43 => ⟨S2x224x224x96, .f32⟩
  | 44 => ⟨S2x96x224x224, .f32⟩
  | 45 => ⟨S2x96x224x224, .f32⟩
  | 46 => ⟨S96x96x1x1, .f32⟩
  | 47 => ⟨S96x96, .f32⟩
  | 48 => ⟨S2x96x224x224, .f32⟩
  | 49 => ⟨S2x224x224x96, .f32⟩
  | 50 => ⟨S2x96x224x224, .f32⟩
  | 51 => ⟨S2x96x224x224, .f32⟩
  | 52 => ⟨S96x96x1x1, .f32⟩
  | 53 => ⟨S96x96, .f32⟩
  | 54 => ⟨S2x96x224x224, .f32⟩
  | 55 => ⟨S2x224x224x96, .f32⟩
  | 56 => ⟨S2x96x224x224, .f32⟩
  | 57 => ⟨S2x96x224x224, .f32⟩
  | 58 => ⟨S96x96x1x1, .f32⟩
  | 59 => ⟨S96x96, .f32⟩
  | 60 => ⟨S2x96x224x224, .f32⟩
  | 61 => ⟨S2x224x224x96, .f32⟩
  | 62 => ⟨S2x96x224x224, .f32⟩
  | 63 => ⟨S2x96x224x224, .f32⟩
  | 64 => ⟨S_, .f32⟩
  | 65 => ⟨S2x96, .f32⟩
  | 66 => ⟨S2x96x1x1, .f32⟩
  | 67 => ⟨S_, .f32⟩
  | 68 => ⟨S2x96x1x1, .f32⟩
  | 69 => ⟨S2x96x1x1, .f32⟩
  | 70 => ⟨S_, .i32⟩
  | 71 => ⟨S_, .f32⟩
  | 72 => ⟨S2x96, .f32⟩
  | 73 => ⟨S2x96x1x1, .f32⟩
  | 74 => ⟨S_, .f32⟩
  | 75 => ⟨S2x96x1x1, .f32⟩
  | 76 => ⟨S2x96x1x1, .f32⟩
  | 77 => ⟨S2x96x224x224, .f32⟩
  | 78 => ⟨S2x96x224x224, .f32⟩
  | 79 => ⟨S2x96x224x224, .f32⟩
  | 80 => ⟨S_, .f32⟩
  | 81 => ⟨S_, .f32⟩
  | 82 => ⟨S_, .f32⟩
  | 83 => ⟨S_, .f32⟩
  | 84 => ⟨S2x96, .f32⟩
  | 85 => ⟨S2x96x1x1, .f32⟩
  | 86 => ⟨S2x96x1x1, .f32⟩
  | 87 => ⟨S2x96x1x1, .f32⟩
  | 88 => ⟨S_, .f32⟩
  | 89 => ⟨S_, .i1⟩
  | 90 => ⟨S_, .f32⟩
  | 91 => ⟨S_, .f32⟩
  | 92 => ⟨S2x96x1x1, .f32⟩
  | 93 => ⟨S2x96x1x1, .f32⟩
  | 94 => ⟨S2x96x224x224, .f32⟩
  | 95 => ⟨S2x96x224x224, .f32⟩
  | 96 => ⟨S_, .f32⟩
  | 97 => ⟨S2x96x1x1, .f32⟩
  | 98 => ⟨S2x96x1x1, .f32⟩
  | 99 => ⟨S2x96x1x1, .f32⟩
  | 100 => ⟨S2x96x224x224, .f32⟩
  | 101 => ⟨S2x96x224x224, .f32⟩
  | 102 => ⟨S_, .f32⟩
  | 103 => ⟨S2x96x224x224, .f32⟩
  | 104 => ⟨S2x96x224x224, .i1⟩
  | 105 => ⟨S_, .f32⟩
  | 106 => ⟨S2x96x224x224, .f32⟩
  | 107 => ⟨S2x96x224x224, .f32⟩
  | 108 => ⟨S2x96x224x224, .f32⟩
  | 109 => ⟨S96x96x3x3, .f32⟩
  | 110 => ⟨S_, .i32⟩
  | 111 => ⟨S_, .f32⟩
  | 112 => ⟨S2x96x226x226, .f32⟩
  | 113 => ⟨S96x96x1x1, .f32⟩
  | 114 => ⟨S96x96, .f32⟩
  | 115 => ⟨S2x96x224x224, .f32⟩
  | 116 => ⟨S2x224x224x96, .f32⟩
  | 117 => ⟨S2x96x224x224, .f32⟩
  | 118 => ⟨S_, .f32⟩
  | 119 => ⟨S2x96x224x224, .f32⟩
  | 120 => ⟨S2x96x224x224, .f32⟩
  | 121 => ⟨S96x96x1x1, .f32⟩
  | 122 => ⟨S96x96, .f32⟩
  | 123 => ⟨S2x96x224x224, .f32⟩
  | 124 => ⟨S2x224x224x96, .f32⟩
  | 125 => ⟨S2x96x224x224, .f32⟩
  | 126 => ⟨S2x96x224x224, .f32⟩
  | 127 => ⟨S96x96x1x1, .f32⟩
  | _ => ⟨S2x96x224x224, .f32⟩

abbrev hbmTy0_1 (i : Nat) : BufTy := match i % 128 with
  | 0 => ⟨S96x96, .f32⟩
  | 1 => ⟨S2x96x224x224, .f32⟩
  | 2 => ⟨S2x224x224x96, .f32⟩
  | 3 => ⟨S2x96x224x224, .f32⟩
  | 4 => ⟨S2x96x224x224, .f32⟩
  | 5 => ⟨S96x96x1x1, .f32⟩
  | 6 => ⟨S96x96, .f32⟩
  | 7 => ⟨S2x96x224x224, .f32⟩
  | 8 => ⟨S2x224x224x96, .f32⟩
  | 9 => ⟨S2x96x224x224, .f32⟩
  | 10 => ⟨S2x96x224x224, .f32⟩
  | 11 => ⟨S96x96x1x1, .f32⟩
  | 12 => ⟨S96x96, .f32⟩
  | 13 => ⟨S2x96x224x224, .f32⟩
  | 14 => ⟨S2x224x224x96, .f32⟩
  | 15 => ⟨S2x96x224x224, .f32⟩
  | 16 => ⟨S2x96x224x224, .f32⟩
  | 17 => ⟨S96x96x1x1, .f32⟩
  | 18 => ⟨S96x96, .f32⟩
  | 19 => ⟨S2x96x224x224, .f32⟩
  | 20 => ⟨S2x224x224x96, .f32⟩
  | 21 => ⟨S2x96x224x224, .f32⟩
  | 22 => ⟨S2x96x224x224, .f32⟩
  | 23 => ⟨S96x96x1x1, .f32⟩
  | 24 => ⟨S96x96, .f32⟩
  | 25 => ⟨S2x96x224x224, .f32⟩
  | 26 => ⟨S2x224x224x96, .f32⟩
  | 27 => ⟨S2x96x224x224, .f32⟩
  | 28 => ⟨S2x96x224x224, .f32⟩
  | 29 => ⟨S96x96x1x1, .f32⟩
  | 30 => ⟨S96x96, .f32⟩
  | 31 => ⟨S2x96x224x224, .f32⟩
  | 32 => ⟨S2x224x224x96, .f32⟩
  | 33 => ⟨S2x96x224x224, .f32⟩
  | 34 => ⟨S2x96x224x224, .f32⟩
  | 35 => ⟨S96x96x1x1, .f32⟩
  | 36 => ⟨S96x96, .f32⟩
  | 37 => ⟨S2x96x224x224, .f32⟩
  | 38 => ⟨S2x224x224x96, .f32⟩
  | 39 => ⟨S2x96x224x224, .f32⟩
  | 40 => ⟨S2x96x224x224, .f32⟩
  | 41 => ⟨S_, .f32⟩
  | 42 => ⟨S2x96, .f32⟩
  | 43 => ⟨S2x96x1x1, .f32⟩
  | 44 => ⟨S_, .f32⟩
  | 45 => ⟨S2x96x1x1, .f32⟩
  | 46 => ⟨S2x96x1x1, .f32⟩
  | 47 => ⟨S_, .i32⟩
  | 48 => ⟨S_, .f32⟩
  | 49 => ⟨S2x96, .f32⟩
  | 50 => ⟨S2x96x1x1, .f32⟩
  | 51 => ⟨S_, .f32⟩
  | 52 => ⟨S2x96x1x1, .f32⟩
  | 53 => ⟨S2x96x1x1, .f32⟩
  | 54 => ⟨S2x96x224x224, .f32⟩
  | 55 => ⟨S2x96x224x224, .f32⟩
  | 56 => ⟨S2x96x224x224, .f32⟩
  | 57 => ⟨S_, .f32⟩
  | 58 => ⟨S_, .f32⟩
  | 59 => ⟨S_, .f32⟩
  | 60 => ⟨S_, .f32⟩
  | 61 => ⟨S2x96, .f32⟩
  | 62 => ⟨S2x96x1x1, .f32⟩
  | 63 => ⟨S2x96x1x1, .f32⟩
  | 64 => ⟨S2x96x1x1, .f32⟩
  | 65 => ⟨S_, .f32⟩
  | 66 => ⟨S_, .i1⟩
  | 67 => ⟨S_, .f32⟩
  | 68 => ⟨S_, .f32⟩
  | 69 => ⟨S2x96x1x1, .f32⟩
  | 70 => ⟨S2x96x1x1, .f32⟩
  | 71 => ⟨S2x96x224x224, .f32⟩
  | 72 => ⟨S2x96x224x224, .f32⟩
  | 73 => ⟨S_, .f32⟩
  | 74 => ⟨S2x96x1x1, .f32⟩
  | 75 => ⟨S2x96x1x1, .f32⟩
  | 76 => ⟨S2x96x1x1, .f32⟩
  | 77 => ⟨S2x96x224x224, .f32⟩
  | 78 => ⟨S2x96x224x224, .f32⟩
  | 79 => ⟨S_, .f32⟩
  | 80 => ⟨S2x96x224x224, .f32⟩
  | 81 => ⟨S2x96x224x224, .i1⟩
  | 82 => ⟨S_, .f32⟩
  | 83 => ⟨S2x96x224x224, .f32⟩
  | 84 => ⟨S2x96x224x224, .f32⟩
  | 85 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_1 : Ref sig .tc := ⟨.hbm, 64, rfl⟩
abbrev main_v57 : Ref sig .tc := ⟨.hbm, 65, rfl⟩
abbrev main_v58 : Ref sig .tc := ⟨.hbm, 66, rfl⟩
abbrev main_cst_2 : Ref sig .tc := ⟨.hbm, 67, rfl⟩
abbrev main_v59 : Ref sig .tc := ⟨.hbm, 68, rfl⟩
abbrev main_v60 : Ref sig .tc := ⟨.hbm, 69, rfl⟩
abbrev main_c_3 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_cst_3 : Ref sig .tc := ⟨.hbm, 88, rfl⟩
abbrev main_call1_v13 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_4 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_5 : Ref sig .tc := ⟨.hbm, 102, rfl⟩
abbrev main_v69 : Ref sig .tc := ⟨.hbm, 103, rfl⟩
abbrev main_v70 : Ref sig .tc := ⟨.hbm, 104, rfl⟩
abbrev main_cst_6 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_7 : Ref sig .tc := ⟨.hbm, 110, rfl⟩
abbrev main_call3_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_8 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_9 : Ref sig .tc := ⟨.hbm, 169, rfl⟩
abbrev main_v131 : Ref sig .tc := ⟨.hbm, 170, rfl⟩
abbrev main_v132 : Ref sig .tc := ⟨.hbm, 171, rfl⟩
abbrev main_cst_10 : Ref sig .tc := ⟨.hbm, 172, rfl⟩
abbrev main_v133 : Ref sig .tc := ⟨.hbm, 173, rfl⟩
abbrev main_v134 : Ref sig .tc := ⟨.hbm, 174, rfl⟩
abbrev main_c_11 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_cst_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_cst_1 : Ref sig .tc := ⟨.hbm, 186, rfl⟩
abbrev main_call4_v8 : Ref sig .tc := ⟨.hbm, 187, rfl⟩
abbrev main_call4_cst_2 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_v12 : Ref sig .tc := ⟨.hbm, 192, rfl⟩
abbrev main_call4_cst_3 : Ref sig .tc := ⟨.hbm, 193, rfl⟩
abbrev main_call4_v13 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_12 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_13 : Ref sig .tc := ⟨.hbm, 207, rfl⟩
abbrev main_v143 : Ref sig .tc := ⟨.hbm, 208, rfl⟩
abbrev main_v144 : Ref sig .tc := ⟨.hbm, 209, rfl⟩
abbrev main_cst_14 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩

abbrev nD : Nat := 1
abbrev τ : Topo := Topo.v7x

variable {F : FTy → Type} [FloatOps F]
-- ==== Proof.RunIdeal.lean ====
/- What one grid point of the kernel body does to its buffers, for any float carrier. -/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents type of the buffer a memref views on core `c`. -/
abbrev Bf (c : Dev nD) {sp : Space} {S : Shape} {e : EltTy} (M : Memref sig .tc sp S e) : Type := Buf (Elt F) (M.view.loc (c : Thread nD τ))
/-- That buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- A memref's own elements held at contents `f` of its buffer. -/
abbrev ptS (c : Dev nD) {sp : Space} {S : Shape} {e : EltTy} (M : Memref sig .tc sp S e) (f : Bf (F := F) c M) : sProp 𝕄 :=
  M.view.loc (c : Thread nD τ) ↦[M.view.set]{fullShare} f

/-- The padded images in HBM. -/
abbrev hbX : Memref sig .tc .hbm S2x96x226x256 .bf16 := Memref.whole main_v31
/-- The result in HBM. -/
abbrev hbO : Memref sig .tc .hbm S2x96x224x224 .f32 := Memref.whole main_v32
/-- The scratch buffer of a padded image, later of the second convolution. -/
abbrev scX : Memref sig .tc .vmem S96x226x256 .bf16 := Memref.whole cc0_scratch0
/-- The scratch buffer of the first convolution. -/
abbrev scH : Memref sig .tc .vmem S96x226x256 .bf16 := Memref.whole cc0_scratch1
/-- The staging buffer of an output block. -/
abbrev scS : Memref sig .tc .vmem S96x16x224 .f32 := Memref.whole cc0_scratch2

/-- What the body leaves in the result's buffer at grid point `i`, with the proof that it runs and leaves it. -/
def bodyRun (c : Dev nD) (i : grid0.Coords)
    (arg2 : Memref sig .tc .vmem S96x288 .bf16) (harg2 : arg2.IsWhole) (arg3 : Memref sig .tc .vmem S192x96 .bf16) (harg3 : arg3.IsWhole)
    (arg4 : Memref sig .tc .vmem S96x288 .bf16) (harg4 : arg4.IsWhole) (arg5 : Memref sig .tc .vmem S192x96 .bf16) (harg5 : arg5.IsWhole)
    (fx : Bf (F := F) c hbX) (f2 : Bf (F := F) c arg2) (f3 : Bf (F := F) c arg3) (f4 : Bf (F := F) c arg4) (f5 : Bf (F := F) c arg5)
    (fo : Bf (F := F) c hbO) (f7 : Bf (F := F) c scX) (f8 : Bf (F := F) c scH) (f9 : Bf (F := F) c scS) :
    { W : Bf (F := F) c hbO //
      ∀ (W₀ : _) (Q : PUnit → sProp 𝕄),
        iprop(ptS c arg2 f2 ∗ ptS c arg3 f3 ∗ ptS c arg4 f4 ∗ ptS c arg5 f5 ∗ pt c hbX fx ∗ pt c hbO fo
          ∗ pt c scX f7 ∗ pt c scH f8 ∗ pt c scS f9
          ∗ semVal ((c : Thread nD τ), SemLoc.dma 4) 0 ∗ semVal ((c : Thread nD τ), SemLoc.dma 5) 0 ∗ owes (c : Thread nD τ) 0 W₀
          ∗ (iprop(ptS c arg2 f2 ∗ ptS c arg3 f3 ∗ ptS c arg4 f4 ∗ ptS c arg5 f5 ∗ pt c hbX fx ∗ pt c hbO W
              ∗ (∃ f, pt c scX f) ∗ (∃ f, pt c scH f) ∗ (∃ f, pt c scS f)
              ∗ semVal ((c : Thread nD τ), SemLoc.dma 4) 0 ∗ semVal ((c : Thread nD τ), SemLoc.dma 5) 0 ∗ (∃ W', owes (c : Thread nD τ) 0 W')) -∗ Q ⟨⟩))
        ⊢ wp frame (wpE (defs₀ (F := F)) Variants.none c none) Set.univ
            (cc0__body i hbX (Memref.isWhole_whole _) arg2 harg2 arg3 harg3 arg4 harg4 arg5 harg5 hbO (Memref.isWhole_whole _)
              scX (Memref.isWhole_whole _) scH (Memref.isWhole_whole _) scS (Memref.isWhole_whole _) cc0_scratch3 cc0_scratch4) Q } := by
  refine ⟨?_, fun W₀ Q => ?run⟩
  case run =>
    iintro ⟨H2, H3, H4, H5, HX, HO, H7, H8, H9, Hq0, Hq1, HW, Hk⟩
    sl_unfold [cc0__body]
    sl_exec_parts
    sl_step
    iapply Hk
    isplitl [H2]; · iexact H2
    isplitl [H3]; · iexact H3
    isplitl [H4]; · iexact H4
    isplitl [H5]; · iexact H5
    isplitl [HX]; · iexact HX
    isplitl [HO]; · iexact HO
    isplitl [H7]; · iexists _; iexact H7
    isplitl [H8]; · iexists _; iexact H8
    isplitl [H9]; · iexists _; iexact H9
    isplitl [Hq0]; · iexact Hq0
    isplitl [Hq1]; · iexact Hq1
    iexists _; iexact HW

end Cert.KernelIdeal.Hand
end
-- ==== Proof.FrameIdeal.lean ====
/- The kernel's frame: launched, it returns with its arguments unchanged and every semaphore at zero. -/
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffer the body writes itself: the result left in HBM. -/
def R0 : Finset (Ref sig .tc) := {main_v32}
/-- The operand left in HBM that the body's transfers read: the padded images. -/
def H0 : Finset (Ref sig .tc) := {main_v31}
/-- The body's two transfer cells. -/
abbrev osem0 : Fin 2 → SemLoc sig := fun j => (![SemLoc.dma 4, SemLoc.dma 5] : Fin 2 → SemLoc sig) j

/-- The host operations before the region, then the region, at the algebra that carries the transfers. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The body's own semaphores are none of the pipeline's. -/
theorem ownSemFacts0 : Pipeline.OwnSemFacts spec0 osem0 := by decide
/-- The operand read from HBM is staged by no window. -/
theorem H0_sub : H0 ⊆ Pipeline.restRefs sig spec0 := by decide
/-- The written result is staged by no window and is not the operand read. -/
theorem R0_sub : R0 ⊆ Pipeline.restRefs sig spec0 \ H0 := by decide

/-- The body's own cells, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The HBM operand read, as one points-to. -/
theorem hbmPts0_eq (c : Dev nD) :
    (bigSep H0 (fun b => ((c : Thread nD τ).loc b) ↦{fullShare} V m c b) : sProp 𝕄) = pt c hbX (V m c main_v31) := by
  rw [BI.bigSep_eq_bigSepL_of_eq [main_v31] (by decide) (by decide)]; rfl
/-- The written result, at some contents. -/
theorem ownedPts0_eq (c : Dev nD) : (Pipeline.owned R0 c : sProp 𝕄) = iprop(∃ f, pt c hbO f) := by
  unfold Pipeline.owned; rw [BI.bigSep_eq_bigSepL_of_eq [main_v32] (by decide) (by decide)]; rfl

/-- The invariant between grid points, spelt out. -/
theorem PhiDR0_eq (c : Dev nD) :
    (Pipeline.ΦDR osem0 spec0 H0 R0 (V m) c : sProp 𝕄)
      = iprop(iprop((∃ f, pt c scX f) ∗ (∃ f, pt c scH f) ∗ (∃ f, pt c scS f))
          ∗ (∃ r, prngReg c r)
          ∗ iprop(semVal ((c : Thread nD τ), SemLoc.dma 4) 0 ∗ semVal ((c : Thread nD τ), SemLoc.dma 5) 0)
          ∗ pt c hbX (V m c main_v31)
          ∗ (∃ f, pt c hbO f)) := by
  rw [Pipeline.ΦDR_eq, scopedRest0_eq, ownSems00_eq, hbmPts0_eq, ownedPts0_eq]

/-- The proof data: the arrays as the region finds them, each staged block left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦDR osem0 spec0 H0 R0 (V m) c
  q _ := fullShare
  owed _ := 0

/-- The arrays are as the region finds them. -/
theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A staged block's buffer holds the window's block at every point. -/
theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
/-- The same for the second window. -/
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
/-- The same for the third window. -/
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
/-- The same for the fourth window. -/
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

/-- One point of the body, from what it is called with to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨⟨%g7, H7⟩, ⟨%g8, H8⟩, ⟨%g9, H9⟩⟩, Hg, ⟨Hq0, Hq1⟩, HX, ⟨%go, HO⟩⟩, ⟨%W, -, HW⟩,
    ⟨%d2, %g2, %hg2, H2⟩, ⟨%d3, %g3, %hg3, H3⟩, ⟨%d4, %g4, %hg4, H4⟩, ⟨%d5, %g5, %hg5, H5⟩⟩
  iapply ((bodyRun c (grid0.coords t) (st0_0 t) _ (st0_1 t) _ (st0_2 t) _ (st0_3 t) _ (V m c main_v31) g2 g3 g4 g5 go g7 g8 g9).2 W _)
  isplitl [H2]; · iexact H2
  isplitl [H3]; · iexact H3
  isplitl [H4]; · iexact H4
  isplitl [H5]; · iexact H5
  isplitl [HX]; · iexact HX
  isplitl [HO]; · iexact HO
  isplitl [H7]; · iexact H7
  isplitl [H8]; · iexact H8
  isplitl [H9]; · iexact H9
  isplitl [Hq0]; · iexact Hq0
  isplitl [Hq1]; · iexact Hq1
  isplitl [HW]; · iexact HW
  iintro ⟨H2, H3, H4, H5, HX, HO, H7, H8, H9, Hq0, Hq1, ⟨%W', HW⟩⟩
  isplitl [H7 H8 H9 Hg Hq0 Hq1 HX HO]
  · isplitl [H7 H8 H9]
    · isplitl [H7]; · iexact H7
      isplitl [H8]; · iexact H8
      iexact H9
    isplitl [Hg]; · iexact Hg
    isplitl [Hq0 Hq1]
    · isplitl [Hq0]; · iexact Hq0
      iexact Hq1
    isplitl [HX]; · iexact HX
    iexists _; iexact HO
  isplitl [HW]
  · iexists W'; isplitr; · ipureintro; exact fun _ _ => Or.inl trivial
    iexact HW
  isplitl [H2]; · iexists g2; isplitr; · ipureintro; exact hg2
                  iexact H2
  isplitl [H3]; · iexists g3; isplitr; · ipureintro; exact hg3
                  iexact H3
  isplitl [H4]; · iexists g4; isplitr; · ipureintro; exact hg4
                  iexact H4
  iexists g5; isplitr; · ipureintro; exact hg5
  iexact H5

/-- The body as the region calls it at point `t`. -/
theorem defs₀_row (t : Fin cfg0.N) : defs₀ (F := F) .tc cfg0.body (cfg0.bodyArgs t (cfg0.slots t)) = bodyAt0 t := by
  unfold defs₀; rw [Defs.onTc_tc]

/-- The body at every point meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every buffer but the result's ends as the region found it, every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the three arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)
    (run_main m ρ)

end Cert.KernelIdeal.Hand

end
-- ==== Proof.Canon.lean ====
module

public import proofs.«01_k».proof.Proof.RunIdeal

/-!
# The body's output as fourteen equal steps

The kernel's body is written out block by block.  This module names one step of each of its three
passes as a function of the block's number and states that what the body leaves is these steps run
fourteen times.
-/

set_option maxRecDepth 16384

@[expose] public section

namespace Cert.KernelIdeal.Hand
open Cert.KernelIdeal Cert.KernelIdeal.Gen
open Idealize.ShloMosaic Idealize.ShloMosaic.TcCoe

variable {F : FTy → Type} [FloatOps F]

/-- Rows `16 n` to `16 n + 17` of a padded image: the rows block `n` reads. -/
def rect18 (n : ℕ) : Rect S96x226x256 :=
  Rect.unit (s := S96x226x256) ![0, min (16 * n) 208, 0] S96x18x256.size (by
    intro a
    fin_cases a
    · show 0 + 96 ≤ 96
      omega
    · show min (16 * n) 208 + 18 ≤ 226
      omega
    · show 0 + 256 ≤ 256
      omega)

/-- Rows `16 n + 1` to `16 n + 16` of a padded image: the rows of block `n`. -/
def rect16 (n : ℕ) : Rect S96x226x256 :=
  Rect.unit (s := S96x226x256) ![0, min (16 * n) 208 + 1, 0] S96x16x256.size (by
    intro a
    fin_cases a
    · show 0 + 96 ≤ 96
      omega
    · show min (16 * n) 208 + 1 + 16 ≤ 226
      omega
    · show 0 + 256 ≤ 256
      omega)

/-- Block `n` of the image the grid point writes, in the result. -/
def rectO (i : grid0.Coords) (n : ℕ) : Rect S2x96x224x224 :=
  Rect.unit (s := S2x96x224x224) ![(BitVec.ofNat 32 (i 0)).toNat, 0, min (16 * n) 208, 0] S1x96x16x224.size (by
    intro a
    fin_cases a
    · exact k0_off2_inb i 0
    · show 0 + 96 ≤ 96
      omega
    · show min (16 * n) 208 + 16 ≤ 224
      omega
    · show 0 + 224 ≤ 224
      omega)

/-- That block as a memory reference of one image's shape. -/
def blkO (i : grid0.Coords) (n : ℕ) : Memref sig .tc .hbm S96x16x224 .f32 :=
  (hbO.slice (rectO i n) (fun _ => rfl)).squeeze S96x16x224 squeezes_S1x96x16x224_S96x16x224

/-- A convolution on one block, zero outside the image's columns. -/
noncomputable def conv (wa : FVec F S96x288 .bf16) (wm : FVec F S192x96 .bf16) (x : Vec F S96x18x256 .bf16) :
    FVec F S96x16x256 .f32 :=
  k0_pay11 k0_pay1 wa wm x

/-- The sums over the first `n` blocks. -/
noncomputable def ssum (o : ℕ → FVec F S96x16x256 .f32) : ℕ → FVec F S96 .f32
  | 0 => k0_pay9
  | n + 1 => addf (ssum o n) (multiReduction .add [1, 2] S96 (o n) 0x00000000#32 reduces_S96x16x256_S96 (.inl rfl) rfl)

/-- The sums of squares over the first `n` blocks. -/
noncomputable def ssq (o : ℕ → FVec F S96x16x256 .f32) : ℕ → FVec F S96 .f32
  | 0 => k0_pay10
  | n + 1 => addf (ssq o n)
      (multiReduction .add [1, 2] S96 (mulf (o n) (o n)) 0x00000000#32 reduces_S96x16x256_S96 (.inl rfl) rfl)

/-- A channel's mean from its sum. -/
noncomputable def meanOf (s : FVec F S96 .f32) : FVec F S96x1x1 .f32 :=
  shapeCast S96x1x1 (divf s (broadcast S96 (Scalar.ofBits .f32 0x47440000#32))) shapeCasts_S96_S96x1x1

/-- A channel's scale from its mean and its sum of squares. -/
noncomputable def scaleOf (m : FVec F S96x1x1 .f32) (q : FVec F S96 .f32) : FVec F S96x1x1 .f32 :=
  rsqrt (addf (subf (meanOf q) (mulf m m)) (broadcast S96x1x1 (Scalar.ofBits .f32 0x3727C5AC#32)))

/-- Eighteen rows normalised and passed through the leaky unit, zero outside the image's columns. -/
noncomputable def act (m rs : FVec F S96x1x1 .f32) (x : Vec F S96x18x256 .bf16) : FVec F S96x18x256 .f32 :=
  have t : FVec F S96x18x256 .f32 :=
    mulf (subf (extf .f32 x bitsLt_bf16_f32) (broadcastTo S96x18x256 m broadcasts_S96x1x1_S96x18x256))
      (broadcastTo S96x18x256 rs broadcasts_S96x1x1_S96x18x256)
  select
    (broadcastTo S96x18x256 (shapeCast S1x1x256 k0_pay1 shapeCasts_S1x1x256_S1x1x256) broadcasts_S1x1x256_S96x18x256)
    (select (cmpf .oge t (broadcast S96x18x256 (Scalar.ofBits .f32 0x00000000#32))) t
      (mulf (broadcast S96x18x256 (Scalar.ofBits .f32 0x3E4CCCCD#32)) t))
    (broadcast S96x18x256 (Scalar.ofBits .f32 0x00000000#32))

/-- The rows block `n` of the second convolution reads: the image's border rows are zero. -/
noncomputable def act2 (m rs : FVec F S96x1x1 .f32) (x : Vec F S96x18x256 .bf16) : ℕ → FVec F S96x18x256 .bf16
  | 0 => truncf .bf16 (concatenate S96x18x256 1
      [⟨S96x1x256, broadcast S96x1x256 (Scalar.ofBits .f32 0x00000000#32)⟩,
        ⟨S96x17x256, extractStridedSlice S96x17x256 ![0, 1, 0] (act m rs x) slices_S96x18x256_o0_1_0_S96x17x256⟩]
      concatenates_S96x1x256_S96x17x256_S96x18x256_d1) bitsLt_bf16_f32
  | 13 => truncf .bf16 (concatenate S96x18x256 1
      [⟨S96x17x256, extractStridedSlice S96x17x256 ![0, 0, 0] (act m rs x) slices_S96x18x256_o0_0_0_S96x17x256⟩,
        ⟨S96x1x256, broadcast S96x1x256 (Scalar.ofBits .f32 0x00000000#32)⟩]
      concatenates_S96x17x256_S96x1x256_S96x18x256_d1) bitsLt_bf16_f32
  | _ => truncf .bf16 (act m rs x) bitsLt_bf16_f32

/-- A block of the second convolution normalised and passed through the leaky unit. -/
noncomputable def outBlk (m rs : FVec F S96x1x1 .f32) (x : Vec F S96x16x256 .bf16) : FVec F S96x16x224 .f32 :=
  k0_pay199 m rs x

/-- The stores of the blocks `o` into a padded image, over the stores `L`, newest first: a block's
    store rewrites the two rows beside it with what they held. -/
noncomputable def blkPieces {c : Dev nD} (M : Memref sig .tc .vmem S96x226x256 .bf16) (f : Bf (F := F) c M)
    (L : List (View.Piece (Elt F) S96x226x256 .bf16)) (o : ℕ → FVec F S96x16x256 .f32) :
    ℕ → List (View.Piece (Elt F) S96x226x256 .bf16)
  | 0 => L
  | n + 1 =>
    ⟨rect18 n, updateSlice (View.readAt (Elt F) M.view (rect18 n).toLoadRect (View.writes M.view (Elt F) f (blkPieces M f L o n)))
        (shapeCast S96x16x256 (truncf .bf16 (o n) bitsLt_bf16_f32) shapeCasts_S96x16x256_S96x16x256 : FVec F S96x16x256 .bf16) ![0, 1, 0] slices_S96x18x256_S96x16x256_0_1_0⟩
      :: blkPieces M f L o n

/-- The stores of the first `n` output blocks into the staging buffer, newest first. -/
noncomputable def stagePieces (y : ℕ → FVec F S96x16x224 .f32) : ℕ → List (View.Piece (Elt F) S96x16x224 .f32)
  | 0 => []
  | n + 1 => ⟨Rect.unit (s := S96x16x224) ![0, 0, 0] S96x16x224.size inb_S96x16x224_S96x16x224_0_0_0, y n⟩ :: stagePieces y n

/-- The result after the first `n` blocks are copied out of the staging buffer. -/
noncomputable def outs {c : Dev nD} (i : grid0.Coords) (fo : Bf (F := F) c hbO) (f9 : Bf (F := F) c scS)
    (y : ℕ → FVec F S96x16x224 .f32) : ℕ → Bf (F := F) c hbO
  | 0 => fo
  | n + 1 => View.write (Elt F) (blkO i n).view (outs i fo f9 y n)
      (View.read (Elt F) scS.view (View.writes scS.view (Elt F) f9 (stagePieces y (n + 1)))) Finset.univ

section
variable (c : Dev nD) (i : Pipeline.Grid.Coords grid0)
  (arg2 : Memref sig .tc .vmem S96x288 .bf16) (arg3 : Memref sig .tc .vmem S192x96 .bf16)
  (arg4 : Memref sig .tc .vmem S96x288 .bf16) (arg5 : Memref sig .tc .vmem S192x96 .bf16)
  (fx : Bf (F := F) c hbX) (f2 : Bf (F := F) c arg2) (f3 : Bf (F := F) c arg3) (f4 : Bf (F := F) c arg4) (f5 : Bf (F := F) c arg5)
  (fo : Bf (F := F) c hbO) (f7 : Bf (F := F) c scX) (f8 : Bf (F := F) c scH) (f9 : Bf (F := F) c scS)

/-- The padded image as the body copies it in. -/
noncomputable def xIn : Bf (F := F) c scX :=
  View.write (Elt F) scX.view f7 (bodyRun.sl.dma0 c i fx) Finset.univ

/-- The first convolution's blocks. -/
noncomputable def o1 (n : ℕ) : FVec F S96x16x256 .f32 :=
  conv (bodyRun.sl.r c arg2 f2) (bodyRun.sl.r_1 c arg3 f3)
    (View.readAt (Elt F) scX.view (rect18 n).toLoadRect (xIn c i fx f7))

/-- The first mean. -/
noncomputable def m1 : FVec F S96x1x1 .f32 := meanOf (ssum (o1 c i arg2 arg3 fx f2 f3 f7) 14)

/-- The first scale. -/
noncomputable def s1 : FVec F S96x1x1 .f32 :=
  scaleOf (m1 c i arg2 arg3 fx f2 f3 f7) (ssq (o1 c i arg2 arg3 fx f2 f3 f7) 14)

/-- The second convolution's blocks, read from the first's rows as the body stored them. -/
noncomputable def o2 (n : ℕ) : FVec F S96x16x256 .f32 :=
  conv (bodyRun.sl.r_2 c arg4 f4) (bodyRun.sl.r_3 c arg5 f5)
    (act2 (m1 c i arg2 arg3 fx f2 f3 f7) (s1 c i arg2 arg3 fx f2 f3 f7)
      (View.readCov scH.view (blkPieces scH f8 (bodyRun.sl.H8_2 c f8) (o1 c i arg2 arg3 fx f2 f3 f7) 14) (rect18 n).toLoadRect) n)

/-- The second mean. -/
noncomputable def m2 : FVec F S96x1x1 .f32 := meanOf (ssum (o2 c i arg2 arg3 arg4 arg5 fx f2 f3 f4 f5 f7 f8) 14)

/-- The second scale. -/
noncomputable def s2 : FVec F S96x1x1 .f32 :=
  scaleOf (m2 c i arg2 arg3 arg4 arg5 fx f2 f3 f4 f5 f7 f8) (ssq (o2 c i arg2 arg3 arg4 arg5 fx f2 f3 f4 f5 f7 f8) 14)

/-- The blocks of the result. -/
noncomputable def yB (n : ℕ) : FVec F S96x16x224 .f32 :=
  outBlk (m2 c i arg2 arg3 arg4 arg5 fx f2 f3 f4 f5 f7 f8) (s2 c i arg2 arg3 arg4 arg5 fx f2 f3 f4 f5 f7 f8)
    (View.readCov scX.view (blkPieces scX (xIn c i fx f7) [] (o2 c i arg2 arg3 arg4 arg5 fx f2 f3 f4 f5 f7 f8) 14)
      (rect16 n).toLoadRect)

/-- What the body leaves in the result is the fourteen output blocks written one after another. -/
theorem out_eq : bodyRun.sl.HO_w14 c i arg2 arg3 arg4 arg5 fx f2 f3 f4 f5 fo f7 f8 f9
    = outs i fo f9 (yB c i arg2 arg3 arg4 arg5 fx f2 f3 f4 f5 f7 f8) 14 := by
  sl_kernel_rfl

end
end Cert.KernelIdeal.Hand
-- ==== Proof.Blocks.lean ====
module

public import proofs.«01_k».proof.Proof.Canon
public import Idealize.ShloMosaic.Lib.Pointwise

/-!
# What the stores of fourteen blocks leave

Reads of a padded image after the stores of the blocks, and of the result after the copies out of
the staging buffer.
-/

set_option maxRecDepth 16384

@[expose] public section

namespace Cert.KernelIdeal.Hand
open Cert.KernelIdeal Cert.KernelIdeal.Gen
open Idealize.ShloMosaic Idealize.ShloMosaic.TcCoe

variable {F : FTy → Type} [FloatOps F]

/-- A row of an image lies among the rows block `n` reads. -/
theorem mem_rect18 (n : ℕ) (hn : n < 14) (a : Fin 96) (r : Fin 226) (x : Fin 256) :
    ix3 a r x ∈ (rect18 n).set ↔ 16 * n ≤ r.val ∧ r.val < 16 * n + 18 := by
  unfold rect18
  rw [Rect.mem_set_unit]
  have h : min (16 * n) 208 = 16 * n := by omega
  rw [h]
  constructor
  · intro H
    exact H 1
  · intro H b
    fin_cases b
    · exact ⟨Nat.zero_le _, by show a.val < 0 + 96; omega⟩
    · exact H
    · exact ⟨Nat.zero_le _, by show x.val < 0 + 256; omega⟩

/-- The place in an image of an element of the rows block `n` reads. -/
theorem emb_rect18 (n : ℕ) (hn : n < 14) (a : Fin 96) (r : Fin 18) (x : Fin 256) (h : 16 * n + r.val < 226) :
    (rect18 n).emb (ix3 a r x) = ix3 a ⟨16 * n + r.val, h⟩ x := by
  funext b
  apply Fin.ext
  fin_cases b
  · show 0 + 1 * a.val = a.val
    omega
  · show min (16 * n) 208 + 1 * r.val = 16 * n + r.val
    omega
  · show 0 + 1 * x.val = x.val
    omega

/-- Where an element of block `n`'s own sixteen rows lies in the padded image. -/
theorem emb_rect16 (n : ℕ) (hn : n < 14) (a : Fin 96) (r : Fin 16) (x : Fin 256) (h : 16 * n + 1 + r.val < 226) :
    (rect16 n).emb (ix3 a r x) = ix3 a ⟨16 * n + 1 + r.val, h⟩ x := by
  funext b
  apply Fin.ext
  fin_cases b
  · show 0 + 1 * a.val = a.val
    omega
  · show min (16 * n) 208 + 1 + 1 * r.val = 16 * n + 1 + r.val
    omega
  · show 0 + 1 * x.val = x.val
    omega

/-- After the stores of the first `n` blocks, the rows stored, and those that `L` had already set,
    read as `T` says. -/
theorem read_blk {c : Dev nD} (M : Memref sig .tc .vmem S96x226x256 .bf16) (f : Bf (F := F) c M)
    (L : List (View.Piece (Elt F) S96x226x256 .bf16)) (o : ℕ → FVec F S96x16x256 .f32)
    (T : Fin 96 → Fin 226 → Fin 256 → Elt F .bf16) (C : ℕ → Prop)
    (hL : ∀ (g : Bf (F := F) c M) a r x, C r.val → View.read (Elt F) M.view (View.writes M.view (Elt F) g L) (ix3 a r x) = T a r x)
    (ho : ∀ n (hn : n < 14) a (r : Fin 16) x, (truncf .bf16 (o n) bitsLt_bf16_f32 : FVec F S96x16x256 .bf16) (ix3 a r x)
      = T a ⟨16 * n + 1 + r.val, by omega⟩ x) :
    ∀ n, n ≤ 14 → ∀ (g : Bf (F := F) c M) a (r : Fin 226) x, (C r.val ∨ 1 ≤ r.val ∧ r.val ≤ 16 * n) →
      View.read (Elt F) M.view (View.writes M.view (Elt F) g (blkPieces M f L o n)) (ix3 a r x) = T a r x := by
  intro n
  induction n with
  | zero =>
    intro _ g a r x h
    rcases h with h | h
    · exact hL g a r x h
    · omega
  | succ n ih =>
    intro hn g a r x h
    unfold blkPieces
    by_cases hm : 16 * n ≤ r.val ∧ r.val < 16 * n + 18
    · have e : ix3 a r x = (rect18 n).emb (ix3 a ⟨r.val - 16 * n, by omega⟩ x) := by
        rw [emb_rect18 n (by omega) a _ x (by simp only []; omega)]
        congr 1
        apply Fin.ext
        simp only []
        omega
      rw [e]
      refine (View.read_writes_cons_emb M.view g (rect18 n) _ _ _).trans ?_
      by_cases hr : 1 ≤ r.val - 16 * n ∧ r.val - 16 * n < 17
      · refine (Eq.trans ?_ (ho n (by omega) a ⟨r.val - 16 * n - 1, by omega⟩ x)).trans
          (congrArg (fun q => T a q x) (Fin.ext (by simp only []; omega)))
        refine (dif_pos (fun b => ?_)).trans ?_
        · fin_cases b
          · exact ⟨Nat.zero_le _, by show a.val < 0 + 96; omega⟩
          · exact hr
          · exact ⟨Nat.zero_le _, by show x.val < 0 + 256; omega⟩
        · rw [shapeCast_self]
          congr 1
          funext b
          fin_cases b <;> rfl
      · refine (dif_neg (fun H => hr (H 1))).trans ?_
        refine Eq.trans ?_ (ih (by omega) f a r x ?_)
        · exact congrArg (View.read (Elt F) M.view (View.writes M.view (Elt F) f (blkPieces M f L o n))) e.symm
        · rcases h with h | h
          · exact .inl h
          · by_cases h0 : r.val = 16 * n
            · exact .inr ⟨h.1, by omega⟩
            · exfalso; omega
    · rw [View.writes_cons, View.read_slice_write_of_not_mem]
      · refine ih (by omega) g a r x ?_
        rcases h with h | h
        · exact .inl h
        · exact .inr (by omega)
      · rw [Rect.map_emb_univ, mem_rect18 n (by omega)]
        exact hm

/-- A read of the rows of block `n` and of the two rows beside it. -/
theorem readAt_rect18 {c : Dev nD} (M : Memref sig .tc .vmem S96x226x256 .bf16) (g : Bf (F := F) c M) (n : ℕ) (hn : n < 14)
    (a : Fin 96) (r : Fin 18) (x : Fin 256) :
    View.readAt (Elt F) M.view (rect18 n).toLoadRect g (ix3 a r x)
      = View.read (Elt F) M.view g (ix3 a (⟨16 * n + r.val, by omega⟩ : Fin 226) x) :=
  congrArg (View.read (Elt F) M.view g) (emb_rect18 n hn a r x (by omega))

/-- A read of the rows of block `n`. -/
theorem readAt_rect16 {c : Dev nD} (M : Memref sig .tc .vmem S96x226x256 .bf16) (g : Bf (F := F) c M) (n : ℕ) (hn : n < 14)
    (a : Fin 96) (r : Fin 16) (x : Fin 256) :
    View.readAt (Elt F) M.view (rect16 n).toLoadRect g (ix3 a r x)
      = View.read (Elt F) M.view g (ix3 a (⟨16 * n + 1 + r.val, by omega⟩ : Fin 226) x) :=
  congrArg (View.read (Elt F) M.view g) (emb_rect16 n hn a r x (by omega))

/-- A one-image block's elements seen without the image axis. -/
theorem reshape_blk (h : (S96x16x224).numel = (S1x96x16x224).numel) (a : Fin 96) (r : Fin 16) (x : Fin 224) :
    Shape.reshapeEquiv h (ix3 a r x) = ix4 (0 : Fin 1) a r x := by
  pointwise

/-- One image's elements seen without the image axis. -/
theorem reshape_img (h : (S96x226x256).numel = (S1x96x226x256).numel) (a : Fin 96) (r : Fin 226) (x : Fin 256) :
    Shape.reshapeEquiv h (ix3 a r x) = ix4 (0 : Fin 1) a r x := by
  pointwise

/-- The image a grid point works on. -/
theorem off_img (i : grid0.Coords) : (BitVec.ofNat 32 (i 0).val).toNat = (i 0).val := by
  have h : (i 0).val < 2 := (i 0).isLt
  rw [BitVec.toNat_ofNat]
  omega

section
variable (c : Dev nD) (i : Pipeline.Grid.Coords grid0)
  (arg2 : Memref sig .tc .vmem S96x288 .bf16) (arg3 : Memref sig .tc .vmem S192x96 .bf16)
  (arg4 : Memref sig .tc .vmem S96x288 .bf16) (arg5 : Memref sig .tc .vmem S192x96 .bf16)
  (fx : Bf (F := F) c hbX) (f2 : Bf (F := F) c arg2) (f3 : Bf (F := F) c arg3) (f4 : Bf (F := F) c arg4) (f5 : Bf (F := F) c arg5)
  (fo : Bf (F := F) c hbO) (f7 : Bf (F := F) c scX) (f8 : Bf (F := F) c scH) (f9 : Bf (F := F) c scS)

/-- Fourteen blocks of sixteen rows as one padded image, zero in the border rows. -/
noncomputable def padRows (o : ℕ → FVec F S96x16x256 .f32) (a : Fin 96) (r : Fin 226) (x : Fin 256) : Elt F .bf16 :=
  if 1 ≤ r.val ∧ r.val ≤ 224 then
    (truncf .bf16 (o ((r.val - 1) / 16)) bitsLt_bf16_f32 : FVec F S96x16x256 .bf16) (ix3 a ⟨(r.val - 1) % 16, Nat.mod_lt _ (by decide)⟩ x)
  else (Scalar.ofBits .bf16 0x0000#16 : F .bf16)

/-- Its rows in block `n` are that block. -/
theorem padRows_blk (o : ℕ → FVec F S96x16x256 .f32) (n : ℕ) (hn : n < 14) (a : Fin 96) (r : Fin 16) (x : Fin 256) :
    (truncf .bf16 (o n) bitsLt_bf16_f32 : FVec F S96x16x256 .bf16) (ix3 a r x) = padRows o a ⟨16 * n + 1 + r.val, by omega⟩ x := by
  unfold padRows
  rw [if_pos (by simp only []; omega)]
  have h1 : (16 * n + 1 + r.val - 1) / 16 = n := by omega
  have h2 : (⟨(16 * n + 1 + r.val - 1) % 16, Nat.mod_lt _ (by decide)⟩ : Fin 16) = r := by
    apply Fin.ext
    simp only []
    omega
  simp only [h1, h2]

/-- The two border rows are set to zero first. -/
theorem border_rows (g : Bf (F := F) c scH) (o : ℕ → FVec F S96x16x256 .f32) (a : Fin 96) (r : Fin 226) (x : Fin 256)
    (h : r.val = 0 ∨ r.val = 225) :
    View.read (Elt F) scH.view (View.writes scH.view (Elt F) g (bodyRun.sl.H8_2 c f8)) (ix3 a r x) = padRows o a r x := by
  unfold bodyRun.sl.H8_2 padRows
  rw [if_neg (by omega)]
  rcases h with h | h
  · rw [View.writes_cons, View.read_slice_write_of_not_mem]
    · have e : ix3 a r x = (Rect.unit (s := S96x226x256) ![0, 0, 0] S96x2x256.size inb_S96x226x256_S96x2x256_0_0_0).emb
          (ix3 a (0 : Fin 2) x) := by
        funext b
        apply Fin.ext
        fin_cases b
        · show a.val = 0 + 1 * a.val
          omega
        · show r.val = 0 + 1 * 0
          omega
        · show x.val = 0 + 1 * x.val
          omega
      rw [e]
      refine (View.read_writes_cons_emb scH.view g _ _ _ _).trans ?_
      refine (dif_pos (fun b => ?_)).trans ?_
      · fin_cases b
        · exact ⟨Nat.zero_le _, by show a.val < 0 + 96; omega⟩
        · exact ⟨Nat.zero_le _, by show 0 < 0 + 1; omega⟩
        · exact ⟨Nat.zero_le _, by show x.val < 0 + 256; omega⟩
      · unfold k0_pay7
        rw [shapeCast_self]
        rfl
    · rw [Rect.map_emb_univ, Rect.mem_set_unit]
      intro H
      have := (H 1).1
      have h2 : 224 ≤ r.val := this
      omega
  · have e : ix3 a r x = (Rect.unit (s := S96x226x256) ![0, 224, 0] S96x2x256.size inb_S96x226x256_S96x2x256_0_224_0).emb
        (ix3 a (1 : Fin 2) x) := by
      funext b
      apply Fin.ext
      fin_cases b
      · show a.val = 0 + 1 * a.val
        omega
      · show r.val = 224 + 1 * 1
        omega
      · show x.val = 0 + 1 * x.val
        omega
    rw [e]
    refine (View.read_writes_cons_emb scH.view g _ _ _ _).trans ?_
    refine (dif_pos (fun b => ?_)).trans ?_
    · fin_cases b
      · exact ⟨Nat.zero_le _, by show a.val < 0 + 96; omega⟩
      · exact ⟨Nat.le_refl _, by show 1 < 1 + 1; omega⟩
      · exact ⟨Nat.zero_le _, by show x.val < 0 + 256; omega⟩
    · unfold k0_pay8
      rw [shapeCast_self]
      rfl

/-- The rows the second pass reads are the first pass's blocks, whatever the buffer held before. -/
theorem rows1 (o : ℕ → FVec F S96x16x256 .f32) (n : ℕ) (hn : n < 14) (a : Fin 96) (r : Fin 18) (x : Fin 256) :
    View.readCov scH.view (blkPieces scH f8 (bodyRun.sl.H8_2 c f8) o 14) (rect18 n).toLoadRect (ix3 a r x)
      = padRows o a ⟨16 * n + r.val, by omega⟩ x := by
  refine (readAt_rect18 (c := c) scH _ n hn a r x).trans ?_
  refine read_blk (c := c) scH f8 _ o (padRows o) (fun r => r = 0 ∨ r = 225)
    (fun g a r x h => border_rows c f8 g o a r x h) (padRows_blk o) 14 le_rfl _ a _ x ?_
  simp only []
  omega

/-- The rows the third pass reads are the second pass's blocks, whatever the buffer held before. -/
theorem rows2 (o : ℕ → FVec F S96x16x256 .f32) (f : Bf (F := F) c scX) (n : ℕ) (hn : n < 14) (a : Fin 96) (r : Fin 16) (x : Fin 256) :
    View.readCov scX.view (blkPieces scX f [] o 14) (rect16 n).toLoadRect (ix3 a r x)
      = (truncf .bf16 (o n) bitsLt_bf16_f32 : FVec F S96x16x256 .bf16) (ix3 a r x) := by
  refine (readAt_rect16 (c := c) scX _ n hn a r x).trans ?_
  refine (read_blk (c := c) scX f [] o (padRows o) (fun _ => False)
    (fun g a r x h => h.elim) (padRows_blk o) 14 le_rfl _ a _ x ?_).trans (padRows_blk o n hn a r x).symm
  simp only []
  omega

/-- The padded image the body copies in. -/
theorem read_xIn (a : Fin 96) (r : Fin 226) (x : Fin 256) :
    View.read (Elt F) scX.view (xIn c i fx f7) (ix3 a r x) = fx (ix4 (i 0 : Fin 2) a r x) := by
  unfold xIn
  refine (congrFun (View.read_write_univ (v := scX.view) f7 (bodyRun.sl.dma0 c i fx)) _).trans ?_
  unfold bodyRun.sl.dma0
  refine congrArg fx ?_
  show (Rect.unit (s := S2x96x226x256) (k0_off1 i) S1x96x226x256.size _).emb (Shape.reshapeEquiv _ (ix3 a r x)) = _
  rw [reshape_img]
  funext b
  apply Fin.ext
  fin_cases b
  · show (BitVec.ofNat 32 (i 0).val).toNat + 1 * 0 = (i 0).val
    rw [off_img]
    omega
  · show 0 + 1 * a.val = a.val
    omega
  · show 0 + 1 * r.val = r.val
    omega
  · show 0 + 1 * x.val = x.val
    omega

/-- The place in the result of an element of block `n`. -/
theorem emb_blkO (n : ℕ) (hn : n < 14) (a : Fin 96) (r : Fin 16) (x : Fin 224) :
    (blkO i n).view.emb (ix3 a r x) = ix4 (i 0 : Fin 2) a (⟨16 * n + r.val, by omega⟩ : Fin 224) x := by
  show (rectO i n).emb (Shape.reshapeEquiv _ (ix3 a r x)) = _
  refine (congrArg (rectO i n).emb (reshape_blk _ a r x)).trans ?_
  funext b
  apply Fin.ext
  fin_cases b
  · show (BitVec.ofNat 32 (i 0).val).toNat + 1 * 0 = (i 0).val
    rw [off_img]
    omega
  · show 0 + 1 * a.val = a.val
    omega
  · show min (16 * n) 208 + 1 * r.val = 16 * n + r.val
    omega
  · show 0 + 1 * x.val = x.val
    omega

/-- The staging buffer holds the last block stored. -/
theorem read_stage (y : ℕ → FVec F S96x16x224 .f32) (n : ℕ) (a : Fin 96) (r : Fin 16) (x : Fin 224) :
    View.read (Elt F) scS.view (View.writes scS.view (Elt F) f9 (stagePieces y (n + 1))) (ix3 a r x) = y n (ix3 a r x) := by
  unfold stagePieces
  have e : ix3 a r x = (Rect.unit (s := S96x16x224) ![0, 0, 0] S96x16x224.size inb_S96x16x224_S96x16x224_0_0_0).emb
      (ix3 a r x) := by
    funext b
    apply Fin.ext
    fin_cases b
    · show a.val = 0 + 1 * a.val
      omega
    · show r.val = 0 + 1 * r.val
      omega
    · show x.val = 0 + 1 * x.val
      omega
  refine (congrArg (View.read (Elt F) scS.view _) e).trans ?_
  exact View.read_writes_cons_emb scS.view f9 _ _ _ _

/-- The result after the first `n` blocks: the rows copied hold their block, the others are unchanged. -/
theorem outs_apply (y : ℕ → FVec F S96x16x224 .f32) :
    ∀ n, n ≤ 14 → ∀ (b : Fin 2) (a : Fin 96) (r : Fin 224) (x : Fin 224),
      outs i fo f9 y n (ix4 b a r x)
        = if b.val = (i 0).val ∧ r.val < 16 * n then
            y (r.val / 16) (ix3 a (⟨r.val % 16, Nat.mod_lt _ (by decide)⟩ : Fin 16) x)
          else fo (ix4 b a r x) := by
  intro n
  induction n with
  | zero =>
    intro _ b a r x
    rw [if_neg (by omega)]
    rfl
  | succ n ih =>
    intro hn b a r x
    unfold outs
    by_cases h : b.val = (i 0).val ∧ 16 * n ≤ r.val ∧ r.val < 16 * n + 16
    · have e : (ix4 b a r x : S2x96x224x224.Idx) = (blkO i n).view.emb (ix3 a (⟨r.val % 16, Nat.mod_lt _ (by decide)⟩ : Fin 16) x) := by
        rw [emb_blkO i n (by omega)]
        have h1 : b = (i 0 : Fin 2) := Fin.ext h.1
        have h2 : r = (⟨16 * n + r.val % 16, by omega⟩ : Fin 224) := by
          apply Fin.ext
          simp only []
          omega
        exact congrArg₂ (fun (p : Fin 2) (q : Fin 224) => (ix4 p a q x : S2x96x224x224.Idx)) h1 h2
      rw [if_pos ⟨h.1, by omega⟩]
      have hq : r.val / 16 = n := by omega
      rw [hq]
      refine (congrArg (View.write (Elt F) (blkO i n).view (outs i fo f9 y n) _ Finset.univ) e).trans ?_
      refine (View.write_emb_of_mem _ _ (Finset.mem_univ _)).trans ?_
      exact (cast_eq rfl _).trans (read_stage c f9 y n a _ x)
    · refine (View.write_of_not_mem (v := (blkO i n).view) _ _ _ ?_).trans ?_
      · rw [View.setOn_univ]
        intro hm
        obtain ⟨z, -, hz⟩ := Finset.mem_map.mp hm
        obtain ⟨p, q, w, rfl⟩ : ∃ (p : Fin 96) (q : Fin 16) (w : Fin 224), z = ix3 p q w := ⟨z 0, z 1, z 2, eq_ix3 z⟩
        replace hz := (emb_blkO i n (by omega) p q w).symm.trans hz
        apply h
        have h0 := congrArg (fun (q : S2x96x224x224.Idx) => (q 0).val) hz
        have h2 := congrArg (fun (q : S2x96x224x224.Idx) => (q 2).val) hz
        have h0' : (i 0).val = b.val := h0
        have h2' : 16 * n + q.val = r.val := h2
        omega
      · exact (ih (by omega) b a r x).trans (if_congr (by omega) rfl rfl)

end

end Cert.KernelIdeal.Hand
-- ==== Proof.Net.lean ====
module

public import Idealize.ShloMosaic.PureOps.Ideal
public import Idealize.ShloMosaic.PureOps.Ideal.Laws

/-!
# Two convolutions with instance normalisation over the reals

The network both programs compute, on real numbers: a 3×3 convolution of a zero-padded image, a
normalisation of each channel over the image, a leaky unit, and all of it once more.
-/

@[expose] public section

namespace Cert.Net
open Idealize.ShloMosaic

/-- A kernel of a convolution: output channel, input channel, row and column of the tap. -/
abbrev Ker : Type := Fin 96 → Fin 96 → Fin 3 → Fin 3 → ℝ

/-- An image's channels. -/
abbrev Img : Type := Fin 96 → Fin 224 → Fin 224 → ℝ

/-- The slope of the leaky unit on negative numbers. -/
noncomputable def slope : ℝ := (Ideal.ofBits .f32 0x3E4CCCCD#32).toReal

/-- The number added to a variance. -/
noncomputable def eps : ℝ := (Ideal.ofBits .f32 0x3727C5AC#32).toReal

/-- An image with a border of zeros: pixel `(r, c)` of it is the image's `(r - 1, c - 1)`. -/
noncomputable def pad (u : Img) (j : Fin 96) (r c : ℕ) : ℝ :=
  if h : (1 ≤ r ∧ r ≤ 224) ∧ (1 ≤ c ∧ c ≤ 224) then u j ⟨r - 1, by omega⟩ ⟨c - 1, by omega⟩ else 0

/-- The convolution. -/
noncomputable def conv (K : Ker) (u : Img) : Img := fun a y z =>
  ∑ dy : Fin 3, ∑ dx : Fin 3, ∑ j : Fin 96, K a j dy dx * pad u j (y.val + dy.val) (z.val + dx.val)

/-- A channel's mean. -/
noncomputable def mean (v : Img) (a : Fin 96) : ℝ := (∑ y, ∑ z, v a y z) / 50176

/-- A channel's variance. -/
noncomputable def var (v : Img) (a : Fin 96) : ℝ := (∑ y, ∑ z, (v a y z - mean v a) * (v a y z - mean v a)) / 50176

/-- The leaky unit. -/
noncomputable def leaky (t : ℝ) : ℝ := if 0 ≤ t then t else slope * t

/-- The normalised image through the leaky unit. -/
noncomputable def norm (v : Img) : Img := fun a y z =>
  leaky ((v a y z - mean v a) / Real.sqrt (var v a + eps))

/-- The network. -/
noncomputable def net (K1 K2 : Ker) (u : Img) : Img := norm (conv K2 (norm (conv K1 u)))

/-- A 32-bit pattern whose exponent is not all ones denotes a real. -/
theorem ofBits_f32_real (b : BitVec 32) (h : (b.extractLsb' 23 8).toNat ≠ 255) : ∃ r : ℝ, Ideal.ofBits .f32 b = (r : EReal) := by
  show ∃ r : ℝ, Ideal.ieee 8 23 b = (r : EReal)
  unfold Ideal.ieee
  dsimp only
  rw [if_neg (show ¬ (b.extractLsb' 23 8).toNat = 2 ^ 8 - 1 from h)]
  split
  · exact ⟨_, rfl⟩
  · exact ⟨_, rfl⟩

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The leaky unit's constant is a real number, the slope. -/
theorem slope_coe : Ideal.ofBits .f32 0x3E4CCCCD#32 = (slope : EReal) := by
  obtain ⟨r, h⟩ := ofBits_f32_real 0x3E4CCCCD#32 (by decide)
  rw [slope, h, EReal.toReal_coe]

/-- The normalisation's constant is a real number, the epsilon. -/
theorem eps_coe : Ideal.ofBits .f32 0x3727C5AC#32 = (eps : EReal) := by
  obtain ⟨r, h⟩ := ofBits_f32_real 0x3727C5AC#32 (by decide)
  rw [eps, h, EReal.toReal_coe]

/-- The epsilon is positive. -/
theorem eps_pos : 0 < eps := by
  rw [eps]
  simp [Ideal.ofBits, Ideal.ieee, -EReal.coe_mul]

/-- The constant the sums are divided by is the number of pixels. -/
theorem count_coe : Ideal.ofBits .f32 0x47440000#32 = ((50176 : ℝ) : EReal) := by
  simp [Ideal.ofBits, Ideal.ieee, -EReal.coe_mul]; norm_num

/-- A variance is the mean of the squares less the square of the mean. -/
theorem var_eq (v : Img) (a : Fin 96) :
    (∑ y, ∑ z, v a y z * v a y z) / 50176 - mean v a * mean v a = var v a := by
  have hS : (∑ y, ∑ z, v a y z) = 50176 * mean v a := by
    unfold mean
    field_simp
  have h : ∀ y z, (v a y z - mean v a) * (v a y z - mean v a)
      = v a y z * v a y z - 2 * mean v a * v a y z + mean v a * mean v a := fun y z => by ring
  unfold var
  simp only [h, Finset.sum_add_distrib, Finset.sum_sub_distrib, ← Finset.mul_sum, hS, Finset.sum_const, Finset.card_univ,
    Fintype.card_fin, nsmul_eq_mul]
  push_cast
  ring

/-- A variance is not negative. -/
theorem var_nonneg (v : Img) (a : Fin 96) : 0 ≤ var v a :=
  div_nonneg (Finset.sum_nonneg fun _ _ => Finset.sum_nonneg fun _ _ => mul_self_nonneg _) (by norm_num)

end Cert.Net
-- ==== Proof.KVal.lean ====
module

public import proofs.«01_k».proof.Proof.Blocks
public import proofs.«01_k».proof.Proof.Net

/-!
# The steps of the kernel's body on real numbers
-/

set_option maxRecDepth 16384

@[expose] public section

namespace Cert.KernelIdeal.Hand
open Cert.KernelIdeal Cert.KernelIdeal.Gen
open Idealize.ShloMosaic Idealize.ShloMosaic.TcCoe
open Cert.Net (Ker Img pad)

/-- The columns of the image in a padded row. -/
theorem valid_col (col : Fin 256) :
    IntOp.andi (IntOp.cmpi CmpIPredicate.sge (BitVec.ofNat 32 col.val) 1#32)
      (IntOp.cmpi CmpIPredicate.sle (BitVec.ofNat 32 col.val) 224#32) = if 1 ≤ col.val ∧ col.val ≤ 224 then 1#1 else 0#1 := by
  revert col
  decide

/-- A choice by the column. -/
theorem sel_valid (col : Fin 256) (A B : EReal) :
    Scalar.select (IntOp.andi (IntOp.cmpi CmpIPredicate.sge (BitVec.ofNat 32 col.val) 1#32)
      (IntOp.cmpi CmpIPredicate.sle (BitVec.ofNat 32 col.val) 224#32)) A B = if 1 ≤ col.val ∧ col.val ≤ 224 then A else B := by
  rw [valid_col]
  by_cases h : 1 ≤ col.val ∧ col.val ≤ 224
  · rw [if_pos h, if_pos h]
    rfl
  · rw [if_neg h, if_neg h]
    rfl

/-- The weights a block's first product takes hold the kernel's middle column of taps. -/
def IsWa (K : Ker) (wa : FVec Ideal S96x288 .bf16) : Prop :=
  ∀ a j : Fin 96, wa (ix2 a (⟨j.val, by omega⟩ : Fin 288)) = ((K a j 0 1 : ℝ) : EReal)
    ∧ wa (ix2 a (⟨96 + j.val, by omega⟩ : Fin 288)) = ((K a j 1 1 : ℝ) : EReal)
    ∧ wa (ix2 a (⟨96 + (96 + j.val), by omega⟩ : Fin 288)) = ((K a j 2 1 : ℝ) : EReal)

/-- The weights its second product takes hold the two side taps of the middle row. -/
def IsWm (K : Ker) (wm : FVec Ideal S192x96 .bf16) : Prop :=
  ∀ a j : Fin 96, wm (ix2 (⟨a.val, by omega⟩ : Fin 192) j) = ((K a j 1 0 : ℝ) : EReal)
    ∧ wm (ix2 (⟨96 + a.val, by omega⟩ : Fin 192) j) = ((K a j 1 2 : ℝ) : EReal)

/-- The four corner taps are zero. -/
def NoCorner (K : Ker) : Prop := ∀ a j, K a j 0 0 = 0 ∧ K a j 0 2 = 0 ∧ K a j 2 0 = 0 ∧ K a j 2 2 = 0

set_option maxHeartbeats 1000000 in
/-- A block's convolution, element by element. -/
theorem conv_apply (wa : FVec Ideal S96x288 .bf16) (wm : FVec Ideal S192x96 .bf16) (x : Vec Ideal S96x18x256 .bf16)
    (a : Fin 96) (r : Fin 16) (col : Fin 256) :
    conv wa wm x (ix3 a r col) = if h : 1 ≤ col.val ∧ col.val ≤ 224 then
      ((∑ j : Fin 96, wa (ix2 a (⟨j.val, by omega⟩ : Fin 288)) * x (ix3 j (⟨r.val, by omega⟩ : Fin 18) col)
        + (∑ j : Fin 96, wa (ix2 a (⟨96 + j.val, by omega⟩ : Fin 288)) * x (ix3 j (⟨1 + r.val, by omega⟩ : Fin 18) col)
          + ∑ j : Fin 96, wa (ix2 a (⟨96 + (96 + j.val), by omega⟩ : Fin 288)) * x (ix3 j (⟨2 + r.val, by omega⟩ : Fin 18) col)))
        + ∑ j : Fin 96, wm (ix2 (⟨a.val, by omega⟩ : Fin 192) j)
            * x (ix3 j (⟨1 + r.val, by omega⟩ : Fin 18) (⟨col.val - 1, by omega⟩ : Fin 256)))
        + ∑ j : Fin 96, wm (ix2 (⟨96 + a.val, by omega⟩ : Fin 192) j)
            * x (ix3 j (⟨1 + r.val, by omega⟩ : Fin 18) (⟨1 + col.val, by omega⟩ : Fin 256))
      else 0 := by
  pointwise [sumSplitAll, conv, k0_pay11, k0_pay1]
  refine (sel_valid col _ _).trans ?_
  by_cases h : 1 ≤ col.val ∧ col.val ≤ 224
  · have h1 : (r.val * 256 + col.val - 1) / 256 = r.val := by omega
    have h2 : (r.val * 256 + col.val - 1) % 256 = col.val - 1 := by omega
    have h3 : (1 + (r.val * 256 + col.val)) / 256 = r.val := by omega
    have h4 : (1 + (r.val * 256 + col.val)) % 256 = 1 + col.val := by omega
    rw [if_pos h, dif_pos h, dif_neg (by omega), dif_pos (by omega)]
    simp only [h1, h2, h3, h4]
  · rw [if_neg h, dif_neg h]

end Cert.KernelIdeal.Hand
-- ==== Proof.KVal2.lean ====
module

public import proofs.«01_k».proof.Proof.KVal

/-!
# The steps of the kernel's body on real numbers
-/

set_option maxRecDepth 16384

@[expose] public section

namespace Cert.KernelIdeal.Hand
open Cert.KernelIdeal Cert.KernelIdeal.Gen
open Idealize.ShloMosaic Idealize.ShloMosaic.TcCoe
open Cert.Net (Ker Img pad coe_sum)

/-- Inside the image a padded image is the image. -/
theorem pad_in (u : Img) (j : Fin 96) (y z : Fin 224) : pad u j (y.val + 1) (z.val + 1) = u j y z := by
  unfold Net.pad
  rw [dif_pos (by omega)]
  rfl

/-- On its border a padded image is zero. -/
theorem pad_out (u : Img) (j : Fin 96) (r c : ℕ) (h : ¬ ((1 ≤ r ∧ r ≤ 224) ∧ (1 ≤ c ∧ c ≤ 224))) : pad u j r c = 0 :=
  dif_neg h

/-- A block's convolution of a padded image is that block of the convolution. -/
theorem conv_real {K : Ker} {u : Img} {wa : FVec Ideal S96x288 .bf16} {wm : FVec Ideal S192x96 .bf16}
    {x : Vec Ideal S96x18x256 .bf16} (n : ℕ) (hn : n < 14) (hwa : IsWa K wa) (hwm : IsWm K wm) (hK : NoCorner K)
    (hx : ∀ (j : Fin 96) (r : Fin 18) (col : Fin 256), x (ix3 j r col) = ((pad u j (16 * n + r.val) col.val : ℝ) : EReal))
    (a : Fin 96) (r : Fin 16) (col : Fin 256) :
    conv wa wm x (ix3 a r col) = ((pad (Net.conv K u) a (16 * n + 1 + r.val) col.val : ℝ) : EReal) := by
  rw [conv_apply]
  by_cases h : 1 ≤ col.val ∧ col.val ≤ 224
  · rw [dif_pos h]
    simp only [hx, (hwa a _).1, (hwa a _).2.1, (hwa a _).2.2, (hwm a _).1, (hwm a _).2, ← EReal.coe_mul, ← coe_sum, ← EReal.coe_add]
    congr 1
    have e1 : 16 * n + 1 + r.val = (⟨16 * n + r.val, by omega⟩ : Fin 224).val + 1 := by simp only []; omega
    have e2 : col.val = (⟨col.val - 1, by omega⟩ : Fin 224).val + 1 := by simp only []; omega
    rw [e1, show pad (Net.conv K u) a ((⟨16 * n + r.val, by omega⟩ : Fin 224).val + 1) col.val
      = Net.conv K u a ⟨16 * n + r.val, by omega⟩ ⟨col.val - 1, by omega⟩ from
        (congrArg (pad (Net.conv K u) a _) e2).trans (pad_in _ a _ _)]
    unfold Net.conv
    simp only [Fin.sum_univ_three, (hK a _).1, (hK a _).2.1, (hK a _).2.2.1, (hK a _).2.2.2, zero_mul, Finset.sum_const_zero, zero_add, add_zero]
    have c1 : col.val - 1 + 1 = col.val := by omega
    have c2 : col.val - 1 + 2 = 1 + col.val := by omega
    have r1 : 16 * n + r.val + 1 = 16 * n + (1 + r.val) := by omega
    have r2 : 16 * n + r.val + 2 = 16 * n + (2 + r.val) := by omega
    simp only [show ((0 : Fin 3) : ℕ) = 0 from rfl, show ((1 : Fin 3) : ℕ) = 1 from rfl, show ((2 : Fin 3) : ℕ) = 2 from rfl,
      c1, c2, r1, r2, Nat.add_zero]
    ring
  · rw [dif_neg h, pad_out _ _ _ _ (fun H => h H.2)]
    rfl

/-- A row of a padded image sums to the image's row. -/
theorem sum_cols (v : Img) (a : Fin 96) (f : ℝ → ℝ) (hf : f 0 = 0) (y : Fin 224) :
    ∑ col : Fin 256, f (pad v a (y.val + 1) col.val) = ∑ z : Fin 224, f (v a y z) := by
  have e : ∀ g : ℕ → ℝ, ∑ col : Fin 256, g col.val = g 0 + ((∑ z : Fin 224, g (1 + z.val)) + ∑ w : Fin 31, g (225 + w.val)) := by
    intro g
    rw [← Finset.sum_range (fun c => g c), show (256 : ℕ) = 1 + (224 + 31) from rfl, Finset.sum_range_add, Finset.sum_range_add,
      Finset.sum_range_one, Finset.sum_range (n := 224), Finset.sum_range (n := 31)]
    simp only [← Nat.add_assoc]
  rw [e (fun c => f (pad v a (y.val + 1) c))]
  have h0 : f (pad v a (y.val + 1) 0) = 0 := by rw [pad_out _ _ _ _ (by omega), hf]
  have h2 : ∀ w : Fin 31, f (pad v a (y.val + 1) (225 + w.val)) = 0 := fun w => by rw [pad_out _ _ _ _ (by omega), hf]
  have h1 : ∀ z : Fin 224, f (pad v a (y.val + 1) (1 + z.val)) = f (v a y z) := fun z => by rw [Nat.add_comm 1, pad_in]
  simp only [h0, h1, h2, Finset.sum_const_zero, zero_add, add_zero]

/-- Fourteen blocks of sixteen rows of a padded image sum to the image. -/
theorem sum_blocks (v : Img) (a : Fin 96) (f : ℝ → ℝ) (hf : f 0 = 0) :
    ∑ m ∈ Finset.range 14, ∑ r : Fin 16, ∑ col : Fin 256, f (pad v a (16 * m + 1 + r.val) col.val)
      = ∑ y : Fin 224, ∑ z : Fin 224, f (v a y z) := by
  let G : ℕ → ℝ := fun y => ∑ col : Fin 256, f (pad v a (y + 1) col.val)
  have h : ∀ k : ℕ, ∑ m ∈ Finset.range k, ∑ r : Fin 16, G (16 * m + r.val) = ∑ y ∈ Finset.range (16 * k), G y := by
    intro k
    induction k with
    | zero => simp
    | succ k ih =>
      rw [Finset.sum_range_succ, ih, Nat.mul_succ, Finset.sum_range_add, Finset.sum_range (n := 16)]
  calc _ = ∑ m ∈ Finset.range 14, ∑ r : Fin 16, G (16 * m + r.val) := by
        refine Finset.sum_congr rfl fun m _ => Finset.sum_congr rfl fun r _ => ?_
        show _ = ∑ col : Fin 256, f (pad v a (16 * m + r.val + 1) col.val)
        rw [show 16 * m + 1 + r.val = 16 * m + r.val + 1 by omega]
    _ = ∑ y ∈ Finset.range 224, G y := h 14
    _ = ∑ y : Fin 224, G y.val := Finset.sum_range _
    _ = _ := Finset.sum_congr rfl fun y _ => sum_cols v a f hf y

/-- A pass's blocks are the rows of a padded image. -/
def IsBlocks (v : Img) (o : ℕ → FVec Ideal S96x16x256 .f32) : Prop :=
  ∀ n, n < 14 → ∀ (a : Fin 96) (r : Fin 16) (col : Fin 256),
    o n (ix3 a r col) = ((pad v a (16 * n + 1 + r.val) col.val : ℝ) : EReal)

/-- The blocks' sums are the image's sums. -/
theorem ssum_real {v : Img} {o : ℕ → FVec Ideal S96x16x256 .f32} (h : IsBlocks v o) (a : Fin 96) :
    ssum o 14 (ix1 a) = ((∑ y, ∑ z, v a y z : ℝ) : EReal) := by
  have H : ∀ k, k ≤ 14 → ssum o k (ix1 a)
      = ((∑ m ∈ Finset.range k, ∑ r : Fin 16, ∑ col : Fin 256, pad v a (16 * m + 1 + r.val) col.val : ℝ) : EReal) := by
    intro k
    induction k with
    | zero => intro _; pointwise [ssum, k0_pay9]; rfl
    | succ k ih =>
      intro hk
      rw [Finset.sum_range_succ, EReal.coe_add, ← ih (by omega)]
      simp only [coe_sum, ← h k (by omega)]
      pointwise [ssum]
  rw [H 14 le_rfl]
  exact congrArg _ (sum_blocks v a (fun t => t) rfl)

/-- The blocks' sums of squares are the image's. -/
theorem ssq_real {v : Img} {o : ℕ → FVec Ideal S96x16x256 .f32} (h : IsBlocks v o) (a : Fin 96) :
    ssq o 14 (ix1 a) = ((∑ y, ∑ z, v a y z * v a y z : ℝ) : EReal) := by
  have H : ∀ k, k ≤ 14 → ssq o k (ix1 a)
      = ((∑ m ∈ Finset.range k, ∑ r : Fin 16, ∑ col : Fin 256,
          pad v a (16 * m + 1 + r.val) col.val * pad v a (16 * m + 1 + r.val) col.val : ℝ) : EReal) := by
    intro k
    induction k with
    | zero => intro _; pointwise [ssq, k0_pay10]; rfl
    | succ k ih =>
      intro hk
      rw [Finset.sum_range_succ, EReal.coe_add, ← ih (by omega)]
      simp only [coe_sum, EReal.coe_mul, ← h k (by omega)]
      pointwise [ssq]
  rw [H 14 le_rfl]
  exact congrArg _ (sum_blocks v a (fun t => t * t) (by norm_num))

/-- A channel's mean from its sum. -/
theorem mean_real {v : Img} {s : FVec Ideal S96 .f32} (a : Fin 96) (h : s (ix1 a) = ((∑ y, ∑ z, v a y z : ℝ) : EReal)) :
    meanOf s (ix3 a 0 0) = ((Net.mean v a : ℝ) : EReal) := by
  pointwise [meanOf]
  rw [Net.count_coe, Ideal.div_coe (by norm_num), h, ← EReal.coe_mul, Net.mean]
  congr 1
  ring

/-- A channel's scale from its mean and its sum of squares. -/
theorem scale_real {v : Img} {m : FVec Ideal S96x1x1 .f32} {q : FVec Ideal S96 .f32} (a : Fin 96)
    (hm : m (ix3 a 0 0) = ((Net.mean v a : ℝ) : EReal))
    (hq : q (ix1 a) = ((∑ y, ∑ z, v a y z * v a y z : ℝ) : EReal)) :
    scaleOf m q (ix3 a 0 0) = (((Real.sqrt (Net.var v a + Net.eps))⁻¹ : ℝ) : EReal) := by
  pointwise [scaleOf, meanOf]
  rw [Net.count_coe, Ideal.div_coe (by norm_num), hq, hm, Net.eps_coe, ← EReal.coe_mul, ← EReal.coe_mul, ← EReal.coe_sub,
    ← EReal.coe_add, mul_one_div, Net.var_eq, Ideal.rsqrt_coe, if_neg, if_neg]
  · exact ne_of_gt (add_pos_of_nonneg_of_pos (Net.var_nonneg v a) Net.eps_pos)
  · exact not_lt.mpr (add_nonneg (Net.var_nonneg v a) Net.eps_pos.le)

/-- A real number through the normalisation and the leaky unit. -/
theorem leaky_real (t m q : ℝ) :
    (if (0 : EReal) ≤ ((t : EReal) - (m : EReal)) * ((q⁻¹ : ℝ) : EReal) then ((t : EReal) - (m : EReal)) * ((q⁻¹ : ℝ) : EReal)
      else Ideal.ofBits .f32 1045220557#32 * (((t : EReal) - (m : EReal)) * ((q⁻¹ : ℝ) : EReal)))
      = ((Net.leaky ((t - m) / q) : ℝ) : EReal) := by
  have e : ((t : EReal) - (m : EReal)) * ((q⁻¹ : ℝ) : EReal) = (((t - m) / q : ℝ) : EReal) := by
    rw [← EReal.coe_sub, ← EReal.coe_mul, div_eq_mul_inv]
  rw [e, Net.slope_coe, ← EReal.coe_mul, Net.leaky]
  by_cases h : 0 ≤ (t - m) / q
  · rw [if_pos h, if_pos (EReal.coe_nonneg.mpr h)]
  · rw [if_neg h, if_neg (fun H => h (EReal.coe_nonneg.mp H))]

/-- The mean and the scale of an image's channels. -/
def IsStat (v : Img) (m s : FVec Ideal S96x1x1 .f32) : Prop :=
  ∀ a : Fin 96, m (ix3 a 0 0) = ((Net.mean v a : ℝ) : EReal)
    ∧ s (ix3 a 0 0) = (((Real.sqrt (Net.var v a + Net.eps))⁻¹ : ℝ) : EReal)

/-- The statistics the body takes from a pass's blocks. -/
theorem stat_real {v : Img} {o : ℕ → FVec Ideal S96x16x256 .f32} (h : IsBlocks v o) :
    IsStat v (meanOf (ssum o 14)) (scaleOf (meanOf (ssum o 14)) (ssq o 14)) := fun a =>
  ⟨mean_real a (ssum_real h a), scale_real a (mean_real a (ssum_real h a)) (ssq_real h a)⟩

/-- Normalised rows inside the image. -/
theorem act_real {v : Img} {m s : FVec Ideal S96x1x1 .f32} {x : Vec Ideal S96x18x256 .bf16} (n : ℕ) (hs : IsStat v m s)
    (hx : ∀ (j : Fin 96) (r : Fin 18) (col : Fin 256), x (ix3 j r col) = ((pad v j (16 * n + r.val) col.val : ℝ) : EReal))
    (j : Fin 96) (r : Fin 18) (col : Fin 256) (hr : 1 ≤ 16 * n + r.val ∧ 16 * n + r.val ≤ 224) :
    act m s x (ix3 j r col) = ((pad (Net.norm v) j (16 * n + r.val) col.val : ℝ) : EReal) := by
  pointwise [act, k0_pay1]
  refine (sel_valid col _ _).trans ?_
  by_cases h : 1 ≤ col.val ∧ col.val ≤ 224
  · rw [if_pos h, hx, (hs j).1, (hs j).2]
    refine (leaky_real _ _ _).trans ?_
    unfold Net.pad
    rw [dif_pos ⟨hr, h⟩, dif_pos ⟨hr, h⟩]
    rfl
  · rw [if_neg h, pad_out _ _ _ _ (fun H => h H.2)]
    rfl

set_option maxHeartbeats 1000000 in
/-- Normalised rows, zero in the border rows. -/
theorem act2_real {v : Img} {m s : FVec Ideal S96x1x1 .f32} {x : Vec Ideal S96x18x256 .bf16} (n : ℕ) (hn : n < 14) (hs : IsStat v m s)
    (hx : ∀ (j : Fin 96) (r : Fin 18) (col : Fin 256), x (ix3 j r col) = ((pad v j (16 * n + r.val) col.val : ℝ) : EReal))
    (j : Fin 96) (r : Fin 18) (col : Fin 256) :
    act2 m s x n (ix3 j r col) = ((pad (Net.norm v) j (16 * n + r.val) col.val : ℝ) : EReal) := by
  have h0 : ¬ (1 ≤ 16 * n + r.val ∧ 16 * n + r.val ≤ 224) → (0 : EReal) = ((pad (Net.norm v) j (16 * n + r.val) col.val : ℝ) : EReal) := by
    intro h
    rw [pad_out _ _ _ _ (fun H => h H.1)]
    rfl
  have H := act_real (x := x) n hs hx j
  rcases Nat.lt_or_ge 0 n with h | h
  · rcases Nat.lt_or_ge n 13 with h' | h'
    · have e : act2 m s x n = truncf .bf16 (act m s x) bitsLt_bf16_f32 := by
        unfold act2
        split
        · omega
        · omega
        · rfl
      rw [e]
      refine Eq.trans ?_ (H r col (by omega))
      pointwise
    · obtain rfl : n = 13 := by omega
      pointwise [act2]
      by_cases hr : r.val < 17
      · rw [dif_pos hr]
        exact H r col (by omega)
      · rw [dif_neg hr]
        exact h0 (by omega)
  · obtain rfl : n = 0 := by omega
    have e0 : 16 * 0 + r.val = r.val := by omega
    rw [e0] at h0
    pointwise [act2]
    by_cases hr : r.val < 1
    · rw [dif_pos hr]
      exact h0 (by omega)
    · rw [dif_neg hr]
      have e : (⟨1 + (r.val - 1), by omega⟩ : Fin 18) = r := Fin.ext (by simp only []; omega)
      rw [e]
      exact (H r col (by omega)).trans (by rw [e0])

/-- A block of the body's output. -/
theorem outBlk_real {v : Img} {m s : FVec Ideal S96x1x1 .f32} {x : Vec Ideal S96x16x256 .bf16} (n : ℕ) (hn : n < 14) (hs : IsStat v m s)
    (hx : ∀ (a : Fin 96) (r : Fin 16) (col : Fin 256), x (ix3 a r col) = ((pad v a (16 * n + 1 + r.val) col.val : ℝ) : EReal))
    (a : Fin 96) (r : Fin 16) (z : Fin 224) :
    outBlk m s x (ix3 a r z) = ((Net.norm v a ⟨16 * n + r.val, by omega⟩ z : ℝ) : EReal) := by
  pointwise [outBlk, k0_pay199]
  rw [hx, (hs a).1, (hs a).2]
  refine (leaky_real _ _ _).trans ?_
  have e : pad v a (16 * n + 1 + r.val) (1 + z.val) = v a ⟨16 * n + r.val, by omega⟩ z :=
    (congrArg₂ (pad v a) (by simp only []; omega) (by omega)).trans (pad_in v a ⟨16 * n + r.val, by omega⟩ z)
  simp only [e]
  rfl

end Cert.KernelIdeal.Hand
-- ==== Proof.KBody.lean ====
module

public import proofs.«01_k».proof.Proof.KVal2

/-!
# What the kernel's body leaves in the result
-/

set_option maxRecDepth 16384

@[expose] public section

namespace Cert.KernelIdeal.Hand
open Cert.KernelIdeal Cert.KernelIdeal.Gen
open Idealize.ShloMosaic Idealize.ShloMosaic.TcCoe
open Cert.Net (Ker Img)

/-- Blocks of a padded image, stored at bfloat16, are the padded image. -/
theorem padRows_real {v : Img} {o : ℕ → FVec Ideal S96x16x256 .f32} (h : IsBlocks v o) (a : Fin 96) (r : Fin 226) (x : Fin 256) :
    padRows o a r x = ((Net.pad v a r.val x.val : ℝ) : EReal) := by
  unfold padRows
  by_cases hr : 1 ≤ r.val ∧ r.val ≤ 224
  · rw [if_pos hr]
    refine (h ((r.val - 1) / 16) (by omega) a _ x).trans ?_
    have e : 16 * ((r.val - 1) / 16) + 1 + (r.val - 1) % 16 = r.val := by omega
    simp only [e]
  · rw [if_neg hr, pad_out _ _ _ _ (fun H => hr H.1)]
    show Ideal.ofBits .bf16 0x0000#16 = ((0 : ℝ) : EReal)
    simp [Ideal.ofBits, Ideal.ieee]

section
variable (c : Dev nD) (i : Pipeline.Grid.Coords grid0)
  (arg2 : Memref sig .tc .vmem S96x288 .bf16) (arg3 : Memref sig .tc .vmem S192x96 .bf16)
  (arg4 : Memref sig .tc .vmem S96x288 .bf16) (arg5 : Memref sig .tc .vmem S192x96 .bf16)
  (fx : Bf (F := Ideal) c hbX) (f2 : Bf (F := Ideal) c arg2) (f3 : Bf (F := Ideal) c arg3) (f4 : Bf (F := Ideal) c arg4)
  (f5 : Bf (F := Ideal) c arg5) (fo : Bf (F := Ideal) c hbO) (f7 : Bf (F := Ideal) c scX) (f8 : Bf (F := Ideal) c scH)
  (f9 : Bf (F := Ideal) c scS)
  {K1 K2 : Ker} {u : Img}

/-- The first pass's blocks are the first convolution. -/
theorem o1_real (hK1 : NoCorner K1) (h2 : IsWa K1 (bodyRun.sl.r c arg2 f2)) (h3 : IsWm K1 (bodyRun.sl.r_1 c arg3 f3))
    (hx : ∀ (a : Fin 96) (r : Fin 226) (x : Fin 256), fx (ix4 (i 0 : Fin 2) a r x) = ((Net.pad u a r.val x.val : ℝ) : EReal)) :
    IsBlocks (Net.conv K1 u) (o1 c i arg2 arg3 fx f2 f3 f7) := fun n hn a r col =>
  conv_real n hn h2 h3 hK1
    (fun j r col => (readAt_rect18 (c := c) scX _ n hn j r col).trans ((read_xIn c i fx f7 j _ col).trans (hx j _ col))) a r col

/-- The second pass's blocks are the second convolution. -/
theorem o2_real (hK1 : NoCorner K1) (h2 : IsWa K1 (bodyRun.sl.r c arg2 f2)) (h3 : IsWm K1 (bodyRun.sl.r_1 c arg3 f3))
    (hK2 : NoCorner K2) (h4 : IsWa K2 (bodyRun.sl.r_2 c arg4 f4)) (h5 : IsWm K2 (bodyRun.sl.r_3 c arg5 f5))
    (hx : ∀ (a : Fin 96) (r : Fin 226) (x : Fin 256), fx (ix4 (i 0 : Fin 2) a r x) = ((Net.pad u a r.val x.val : ℝ) : EReal)) :
    IsBlocks (Net.conv K2 (Net.norm (Net.conv K1 u))) (o2 c i arg2 arg3 arg4 arg5 fx f2 f3 f4 f5 f7 f8) := by
  have H := o1_real c i arg2 arg3 fx f2 f3 f7 hK1 h2 h3 hx
  intro n hn a r col
  refine conv_real n hn h4 h5 hK2 (fun j r col => ?_) a r col
  exact act2_real n hn (stat_real H)
    (fun j r col => (rows1 c f8 _ n hn j r col).trans (padRows_real H j _ col)) j r col

/-- The result after the body at one grid point: its image holds the network's output, the other is unchanged. -/
theorem out_real (hK1 : NoCorner K1) (h2 : IsWa K1 (bodyRun.sl.r c arg2 f2)) (h3 : IsWm K1 (bodyRun.sl.r_1 c arg3 f3))
    (hK2 : NoCorner K2) (h4 : IsWa K2 (bodyRun.sl.r_2 c arg4 f4)) (h5 : IsWm K2 (bodyRun.sl.r_3 c arg5 f5))
    (hx : ∀ (a : Fin 96) (r : Fin 226) (x : Fin 256), fx (ix4 (i 0 : Fin 2) a r x) = ((Net.pad u a r.val x.val : ℝ) : EReal))
    (b : Fin 2) (a : Fin 96) (r z : Fin 224) :
    bodyRun.sl.HO_w14 c i arg2 arg3 arg4 arg5 fx f2 f3 f4 f5 fo f7 f8 f9 (ix4 b a r z)
      = if b.val = (i 0).val then ((Net.net K1 K2 u a r z : ℝ) : EReal) else fo (ix4 b a r z) := by
  have H := o2_real c i arg2 arg3 arg4 arg5 fx f2 f3 f4 f5 f7 f8 hK1 h2 h3 hK2 h4 h5 hx
  rw [out_eq]
  refine (outs_apply c i fo f9 _ 14 le_rfl b a r z).trans ?_
  by_cases hb : b.val = (i 0).val
  · rw [if_pos hb, if_pos ⟨hb, by omega⟩]
    refine (outBlk_real (r.val / 16) (by omega) (stat_real H) (fun a r col => ?_) a _ z).trans ?_
    · exact (rows2 c _ _ _ (by omega) a r col).trans (H _ (by omega) a r col)
    · have e : (⟨16 * (r.val / 16) + r.val % 16, by omega⟩ : Fin 224) = r := Fin.ext (by simp only []; omega)
      rw [e]
      rfl
  · rw [if_neg hb, if_neg (fun h => hb h.1)]

end

end Cert.KernelIdeal.Hand
-- ==== Proof.KLaunch.lean ====
module

public import proofs.«01_k».proof.Proof.KBody
public import proofs.«01_k».proof.Proof.FrameIdeal
public import Idealize.ShloMosaic.Lib.Pipeline.FrameValue

/-!
# What the kernel leaves in the result, launched
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Net (Ker Img)

local notation "𝕄" => MT nD τ sig Unit (Elt Ideal) ℕ (Pipeline.UD sig nD τ) ℕ

/-- What the network makes of an image per batch entry. -/
def netOut (K1 K2 : Ker) (u : Fin 2 → Img) : S2x96x224x224.Idx → EReal := fun j =>
  ((Net.net K1 K2 (u (j 0)) (j 1) (j 2) (j 3) : ℝ) : EReal)

/-- The operands as the region finds them: the padded images and the two convolutions' weights. -/
structure Operands (m : (ℓ : Loc nD τ sig) → Buf (Elt Ideal) ℓ) (K1 K2 : Ker) (u : Fin 2 → Img) (c : Dev nD) : Prop where
  corner1 : NoCorner K1
  corner2 : NoCorner K2
  image : ∀ (b : Fin 2) (a : Fin 96) (r : Fin 226) (x : Fin 256),
    (V m c main_v31 : S2x96x226x256.Idx → EReal) (ix4 b a r x) = ((Net.pad (u b) a r.val x.val : ℝ) : EReal)
  wa1 : ∀ t : Fin cfg0.N, IsWa K1 (iblk m c 0 t)
  wm1 : ∀ t : Fin cfg0.N, IsWm K1 (iblk m c 1 t)
  wa2 : ∀ t : Fin cfg0.N, IsWa K2 (iblk m c 2 t)
  wm2 : ∀ t : Fin cfg0.N, IsWm K2 (iblk m c 3 t)

variable (m : (ℓ : Loc nD τ sig) → Buf (Elt Ideal) ℓ) (ρ : Dev nD → PrngReg) (K1 K2 : Dev nD → Ker) (u : Dev nD → Fin 2 → Img)

/-- The result after the first `n` grid points: an image per point. -/
def outAt (c : Dev nD) (n : ℕ) : Bf (F := Ideal) c hbO := fun j =>
  if (j 0).val < n then netOut (K1 c) (K2 c) (u c) j else (V m c main_v32 : S2x96x224x224.Idx → EReal) j

/-- Every buffer after the first `n` grid points: the result as above, the others as the region finds them. -/
def GA (n : ℕ) (c : Dev nD) (b : Ref sig .tc) : Buf (Elt Ideal) ((c : Thread nD τ).loc b) :=
  if h : b = main_v32 then h ▸ outAt m K1 K2 u c n else V m c b

/-- The result after the first `n` grid points. -/
theorem GA_out (n : ℕ) (c : Dev nD) : GA m K1 K2 u n c main_v32 = outAt m K1 K2 u c n := dif_pos rfl

/-- Before the first point every buffer is as the region finds it. -/
theorem GA_zero : GA m K1 K2 u 0 = V m := by
  funext c b
  unfold GA
  by_cases h : b = main_v32
  · subst h
    rw [dif_pos rfl]
    funext j
    exact if_neg (Nat.not_lt_zero _)
  · rw [dif_neg h]

/-- After the last the result is the network's output. -/
theorem GA_two (c : Dev nD) : GA m K1 K2 u 2 c main_v32 = netOut (K1 c) (K2 c) (u c) := by
  rw [GA_out]
  funext j
  exact if_pos (show ((j : S2x96x224x224.Idx) 0).val < 2 from (j 0).isLt)

/-- The written result, at its contents. -/
theorem routed0_eq (c : Dev nD) (n : ℕ) :
    (Pipeline.routed R0 c (GA m K1 K2 u n c) : sProp 𝕄) = pt c hbO (outAt m K1 K2 u c n) := by
  unfold Pipeline.routed
  rw [BI.bigSep_eq_bigSepL_of_eq [main_v32] (by decide) (by decide), ← GA_out]
  rfl

/-- The invariant between grid points, spelt out. -/
theorem PhiDRG0_eq (c : Dev nD) (n : ℕ) :
    (Pipeline.ΦDRG osem0 spec0 H0 R0 (V m) (GA m K1 K2 u n) c : sProp 𝕄)
      = iprop(iprop((∃ f, pt c scX f) ∗ (∃ f, pt c scH f) ∗ (∃ f, pt c scS f))
          ∗ (∃ r, prngReg c r)
          ∗ iprop(semVal ((c : Thread nD τ), SemLoc.dma 4) 0 ∗ semVal ((c : Thread nD τ), SemLoc.dma 5) 0)
          ∗ pt c hbX (V m c main_v31)
          ∗ pt c hbO (outAt m K1 K2 u c n)) := by
  rw [Pipeline.ΦDRG_eq, scopedRest0_eq, ownSems00_eq, hbmPts0_eq, routed0_eq]

/-- The proof data: as for the frame, the result held at its contents. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ n := Pipeline.ΦDRG osem0 spec0 H0 R0 (V m) (GA m K1 K2 u n.val) c
  q _ := fullShare
  owed _ := 0

/-- The arrays are as the region finds them. -/
theorem A_eqV (c : Dev nD) (w : Fin cfg0.W) : (datsV m K1 K2 u 0 c).A w = V m c (Pipeline.arrRef spec0 w) := by dsimp only [datsV]

/-- What the body is called with at point `t`. -/
def bodyPreV (c : Dev nD) (t : Fin cfg0.N) : sProp 𝕄 :=
  iprop((datsV m K1 K2 u 0 c).Φ t.castSucc ∗ (datsV m K1 K2 u 0 c).owesAt () t.castSucc
    ∗ (∃ d, owns (c : Thread nD τ) (st0_0 t) fullShare ((datsV m K1 K2 u 0 c).before 0 t d))
    ∗ (∃ d, owns (c : Thread nD τ) (st0_1 t) fullShare ((datsV m K1 K2 u 0 c).before 1 t d))
    ∗ (∃ d, owns (c : Thread nD τ) (st0_2 t) fullShare ((datsV m K1 K2 u 0 c).before 2 t d))
    ∗ (∃ d, owns (c : Thread nD τ) (st0_3 t) fullShare ((datsV m K1 K2 u 0 c).before 3 t d)))
/-- What the body hands back at point `t`. -/
def bodyPostV (c : Dev nD) (t : Fin cfg0.N) : sProp 𝕄 :=
  iprop((datsV m K1 K2 u 0 c).Φ t.succ ∗ (datsV m K1 K2 u 0 c).owesAt () t.succ
    ∗ owns (c : Thread nD τ) (st0_0 t) fullShare ((datsV m K1 K2 u 0 c).after 0 t)
    ∗ owns (c : Thread nD τ) (st0_1 t) fullShare ((datsV m K1 K2 u 0 c).after 1 t)
    ∗ owns (c : Thread nD τ) (st0_2 t) fullShare ((datsV m K1 K2 u 0 c).after 2 t)
    ∗ owns (c : Thread nD τ) (st0_3 t) fullShare ((datsV m K1 K2 u 0 c).after 3 t))

/-- The first window's buffer holds its block at every point. -/
theorem beforeV0 (c : Dev nD) (t : Fin cfg0.N) (d) : (datsV m K1 K2 u 0 c).before 0 t d = iblk m c 0 t :=
  ((datsV m K1 K2 u 0 c).before_in_eq_fetched 0 rfl (fun _ => rfl) (fun _ _ _ => rfl) (fun _ => rfl) t d).trans rfl
/-- The second window's buffer holds its block at every point. -/
theorem beforeV1 (c : Dev nD) (t : Fin cfg0.N) (d) : (datsV m K1 K2 u 0 c).before 1 t d = iblk m c 1 t :=
  ((datsV m K1 K2 u 0 c).before_in_eq_fetched 1 rfl (fun _ => rfl) (fun _ _ _ => rfl) (fun _ => rfl) t d).trans rfl
/-- The third window's buffer holds its block at every point. -/
theorem beforeV2 (c : Dev nD) (t : Fin cfg0.N) (d) : (datsV m K1 K2 u 0 c).before 2 t d = iblk m c 2 t :=
  ((datsV m K1 K2 u 0 c).before_in_eq_fetched 2 rfl (fun _ => rfl) (fun _ _ _ => rfl) (fun _ => rfl) t d).trans rfl
/-- The fourth window's buffer holds its block at every point. -/
theorem beforeV3 (c : Dev nD) (t : Fin cfg0.N) (d) : (datsV m K1 K2 u 0 c).before 3 t d = iblk m c 3 t :=
  ((datsV m K1 K2 u 0 c).before_in_eq_fetched 3 rfl (fun _ => rfl) (fun _ _ _ => rfl) (fun _ => rfl) t d).trans rfl

/-- A load of a whole window reads the window. -/
theorem load_wa {c : Dev nD} (M : Memref sig .tc .vmem S96x288 .bf16) (g : Bf (F := Ideal) c M) :
    View.readAt (Elt Ideal) M.view (Rect.unit (s := S96x288) ![0, 0] S96x288.size inb_S96x288_S96x288_0_0).toLoadRect g
      = View.read (Elt Ideal) M.view g := by
  funext j
  refine congrArg (View.read (Elt Ideal) M.view g) ?_
  funext b
  apply Fin.ext
  fin_cases b
  · show 0 + 1 * (j 0).val = (j 0).val
    omega
  · show 0 + 1 * (j 1).val = (j 1).val
    omega

/-- The same for the other weight window. -/
theorem load_wm {c : Dev nD} (M : Memref sig .tc .vmem S192x96 .bf16) (g : Bf (F := Ideal) c M) :
    View.readAt (Elt Ideal) M.view (Rect.unit (s := S192x96) ![0, 0] S192x96.size inb_S192x96_S192x96_0_0).toLoadRect g
      = View.read (Elt Ideal) M.view g := by
  funext j
  refine congrArg (View.read (Elt Ideal) M.view g) ?_
  funext b
  apply Fin.ext
  fin_cases b
  · show 0 + 1 * (j 0).val = (j 0).val
    omega
  · show 0 + 1 * (j 1).val = (j 1).val
    omega

/-- The grid's point `t` is its batch entry. -/
theorem coords_val : ∀ t : Fin cfg0.N, (grid0.coords t 0).val = t.val := by decide

/-- One grid point fills its image of the result. -/
theorem out_step (c : Dev nD) (hA : Operands m (K1 c) (K2 c) (u c) c) (t : Fin cfg0.N)
    (g2 : Bf (F := Ideal) c (st0_0 t)) (g3 : Bf (F := Ideal) c (st0_1 t)) (g4 : Bf (F := Ideal) c (st0_2 t)) (g5 : Bf (F := Ideal) c (st0_3 t))
    (h2 : View.read (Elt Ideal) (st0_0 t).view g2 = iblk m c 0 t) (h3 : View.read (Elt Ideal) (st0_1 t).view g3 = iblk m c 1 t)
    (h4 : View.read (Elt Ideal) (st0_2 t).view g4 = iblk m c 2 t) (h5 : View.read (Elt Ideal) (st0_3 t).view g5 = iblk m c 3 t)
    (f7 : Bf (F := Ideal) c scX) (f8 : Bf (F := Ideal) c scH) (f9 : Bf (F := Ideal) c scS) :
    bodyRun.sl.HO_w14 c (grid0.coords t) (st0_0 t) (st0_1 t) (st0_2 t) (st0_3 t) (V m c main_v31) g2 g3 g4 g5
      (outAt m K1 K2 u c t.val) f7 f8 f9 = outAt m K1 K2 u c (t.val + 1) := by
  funext j
  obtain ⟨b, a, r, z, rfl⟩ : ∃ (b : Fin 2) (a : Fin 96) (r z : Fin 224), j = ix4 b a r z := ⟨j 0, j 1, j 2, j 3, eq_ix4 j⟩
  refine (out_real c (grid0.coords t) (st0_0 t) (st0_1 t) (st0_2 t) (st0_3 t) (V m c main_v31) g2 g3 g4 g5 _ f7 f8 f9
    (K1 := K1 c) (K2 := K2 c) (u := u c (grid0.coords t 0)) hA.corner1 ?_ ?_ hA.corner2 ?_ ?_ (hA.image _) b a r z).trans ?_
  · have e : bodyRun.sl.r c (st0_0 t) g2 = iblk m c 0 t := (shapeCast_self _ _).trans ((load_wa _ g2).trans h2)
    rw [e]
    exact hA.wa1 t
  · have e : bodyRun.sl.r_1 c (st0_1 t) g3 = iblk m c 1 t := (shapeCast_self _ _).trans ((load_wm _ g3).trans h3)
    rw [e]
    exact hA.wm1 t
  · have e : bodyRun.sl.r_2 c (st0_2 t) g4 = iblk m c 2 t := (shapeCast_self _ _).trans ((load_wa _ g4).trans h4)
    rw [e]
    exact hA.wa2 t
  · have e : bodyRun.sl.r_3 c (st0_3 t) g5 = iblk m c 3 t := (shapeCast_self _ _).trans ((load_wm _ g5).trans h5)
    rw [e]
    exact hA.wm2 t
  · have ht := coords_val t
    show _ = if b.val < t.val + 1 then netOut (K1 c) (K2 c) (u c) (ix4 b a r z) else _
    by_cases hb : b.val = t.val
    · have hbt : (grid0.coords t 0 : Fin 2) = b := Fin.ext (ht.trans hb.symm)
      rw [if_pos (hb.trans ht.symm), if_pos (by omega), hbt]
      rfl
    · rw [if_neg (fun h => hb (h.trans ht))]
      show (if b.val < t.val then netOut (K1 c) (K2 c) (u c) (ix4 b a r z) else _) = _
      exact if_congr (by omega) rfl rfl

/-- One point of the body, from what it is called with to what it hands back. -/
theorem sound_bodyV (hA : ∀ c, Operands m (K1 c) (K2 c) (u c) c) (c : Dev nD) (t : Fin cfg0.N) :
    bodyPreV m K1 K2 u c t ⊢ wp Idealize.ShloMosaic.frame (wpE (defs₀ (F := Ideal)) Variants.none c none) Set.univ (bodyAt0 t) (fun _ => bodyPostV m K1 K2 u c t) := by
  unfold bodyPreV bodyPostV bodyAt0
  simp only [beforeV0, beforeV1, beforeV2, beforeV3]
  rw [show (datsV m K1 K2 u 0 c).Φ t.succ = Pipeline.ΦDRG osem0 spec0 H0 R0 (V m) (GA m K1 K2 u (t.val + 1)) c from rfl,
    show (datsV m K1 K2 u 0 c).Φ t.castSucc = Pipeline.ΦDRG osem0 spec0 H0 R0 (V m) (GA m K1 K2 u t.val) c from rfl,
    PhiDRG0_eq, PhiDRG0_eq]
  unfold Dat.owesAt Pipeline.owesWithin
  rw [show (datsV m K1 K2 u 0 c).owed t.castSucc = 0 from rfl, show (datsV m K1 K2 u 0 c).owed t.succ = 0 from rfl]
  unfold owns
  iintro ⟨⟨⟨⟨%g7, H7⟩, ⟨%g8, H8⟩, ⟨%g9, H9⟩⟩, Hg, ⟨Hq0, Hq1⟩, HX, HO⟩, ⟨%W, -, HW⟩,
    ⟨%d2, %g2, %hg2, H2⟩, ⟨%d3, %g3, %hg3, H3⟩, ⟨%d4, %g4, %hg4, H4⟩, ⟨%d5, %g5, %hg5, H5⟩⟩
  iapply ((bodyRun c (grid0.coords t) (st0_0 t) _ (st0_1 t) _ (st0_2 t) _ (st0_3 t) _ (V m c main_v31) g2 g3 g4 g5
    (outAt m K1 K2 u c t.val) g7 g8 g9).2 W _)
  isplitl [H2]; · iexact H2
  isplitl [H3]; · iexact H3
  isplitl [H4]; · iexact H4
  isplitl [H5]; · iexact H5
  isplitl [HX]; · iexact HX
  isplitl [HO]; · iexact HO
  isplitl [H7]; · iexact H7
  isplitl [H8]; · iexact H8
  isplitl [H9]; · iexact H9
  isplitl [Hq0]; · iexact Hq0
  isplitl [Hq1]; · iexact Hq1
  isplitl [HW]; · iexact HW
  iintro ⟨H2, H3, H4, H5, HX, HO, H7, H8, H9, Hq0, Hq1, ⟨%W', HW⟩⟩
  isplitl [H7 H8 H9 Hg Hq0 Hq1 HX HO]
  · isplitl [H7 H8 H9]
    · isplitl [H7]; · iexact H7
      isplitl [H8]; · iexact H8
      iexact H9
    isplitl [Hg]; · iexact Hg
    isplitl [Hq0 Hq1]
    · isplitl [Hq0]; · iexact Hq0
      iexact Hq1
    isplitl [HX]; · iexact HX
    rw [← out_step m K1 K2 u c (hA c) t g2 g3 g4 g5 hg2 hg3 hg4 hg5 g7 g8 g9]
    iexact HO
  isplitl [HW]
  · iexists W'; isplitr; · ipureintro; exact fun _ _ => Or.inl trivial
    iexact HW
  isplitl [H2]; · iexists g2; isplitr; · ipureintro; exact hg2
                  iexact H2
  isplitl [H3]; · iexists g3; isplitr; · ipureintro; exact hg3
                  iexact H3
  isplitl [H4]; · iexists g4; isplitr; · ipureintro; exact hg4
                  iexact H4
  iexists g5; isplitr; · ipureintro; exact hg5
  iexact H5

/-- The body at every point meets what the pipeline asks of it. -/
theorem body_obligationV (hA : ∀ c, Operands m (K1 c) (K2 c) (u c) c) (c : Dev nD) :
    BodyObligation (datsV m K1 K2 u 0 c) (defs₀ (F := Ideal)) Variants.none () Set.univ := fun t => by
  rw [bigSep_W0, bigSep_W0, defs₀_row]
  exact triple_restated (sound_bodyV m K1 K2 u hA c t) rfl .rfl fun _ => .rfl

set_option backward.isDefEq.respectTransparency.types false in
/-- The launch: the result ends as both grid points leave it. -/
theorem run_value (hA : ∀ c, Operands m (K1 c) (K2 c) (u c) c) :
    θ_run defs (onTc (τ := τ) (main (F := Ideal))) (s₀ m ρ)
      (fun r => Pipeline.FramePostRG cfgs (datsV m K1 K2 u) 0 R0 (V m) (GA m K1 K2 u 2) r ∧ r.2.sem = fun _ => 0) :=
  Pipeline.θ_run_frame_dmaRG (Q' := _) cfgs (datsV m K1 K2 u) (0 : Fin 1) launch0 osem0 defs₀ Variants.none ownSemFacts0 H0 R0 H0_sub R0_sub m ρ main
    (hbody := fun c => (body_obligationV m K1 K2 u hA c).loose) (hshare := fun c => (datsV m K1 K2 u 0 c).share_full fun _ => rfl)
    (howed := fun _ _ => rfl) (V := V m) (hmain := hmain m Variants.none) (hA := A_eqV m K1 K2 u) (G := GA m K1 K2 u 2)
    (hin := fun c => by
      rw [show (datsV m K1 K2 u 0 c).Φ 0 = Pipeline.ΦDRG osem0 spec0 H0 R0 (V m) (GA m K1 K2 u 0) c from rfl, GA_zero]) (hout := fun _ => .rfl)

/-- The launch's results: the network's output in the result, the arguments unchanged. -/
theorem value (hA : ∀ c, Operands m (K1 c) (K2 c) (u c) c) :
    θ_run defs (onTc (τ := τ) (main (F := Ideal))) ⟨m, fun _ => 0, ρ⟩ (fun r => ∀ c : Dev nD,
      r.2.mem ((c.tc : Thread nD τ).loc main_v32) = netOut (K1 c) (K2 c) (u c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1.written c (b := main_v32) (by decide)).trans (GA_two m K1 K2 u c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c)⟩)
    (run_value m ρ K1 K2 u hA)

end Cert.KernelIdeal.Hand

end
-- ==== Proof.KHost.lean ====
module

public import proofs.«01_k».proof.Proof.KLaunch

/-!
# What the kernel's region finds in its operands
-/

set_option maxRecDepth 16384

@[expose] public section

namespace Cert.KernelIdeal.Hand
open Cert.KernelIdeal Cert.KernelIdeal.Gen
open Idealize.ShloMosaic Idealize.ShloMosaic.TcCoe Idealize.ShloMosaic.Tactic
open Cert.Net (Ker Img)

/-- The taps a weight's coefficients stand for. -/
noncomputable def taps (w : FVec Ideal S96x96x9 .f32) : FVec Ideal S96x96x3x3 .f32 :=
  Host.dotGeneral dot_S96x96x9_S9x3x3_S96x96x3x3_2_0_01_12_n_n none w (fun i => FloatOps.ofBits .f32 (lit0 (S9x3x3.rowMajor i)))

/-- The taps as real numbers. -/
noncomputable def ker (w : FVec Ideal S96x96x9 .f32) : Ker := fun a j dy dx => (taps w (ix4 a j dy dx)).toReal

/-- A tap is the sum over the basis of coefficient times basis function. -/
theorem taps_apply (w : FVec Ideal S96x96x9 .f32) (a j : Fin 96) (dy dx : Fin 3) :
    taps w (ix4 a j dy dx) = ∑ k : Fin 9, w (ix3 a j k) * Ideal.ofBits .f32 (lit0 (S9x3x3.rowMajor (ix3 k dy dx))) := by
  pointwise [taps]

variable (m : (ℓ : Loc nD τ sig) → Buf (Elt Ideal) ℓ) (c : Dev nD)

/-- The images with a border of zeros, and zeros to the right up to the width of a row. -/
noncomputable def padded (x : FVec Ideal S2x96x224x224 .f32) : FVec Ideal S2x96x226x256 .bf16 :=
  truncf .bf16 (Idealize.ShloMosaic.pad S2x96x226x256 ![0, 0, 1, 1] ![0, 0, 1, 31] ![0, 0, 0, 0]
    x (sitofp .f32 (constantI S_ 32 0#32)) pads_S2x96x224x224_S2x96x226x256_000_000_110_1310 h_S_) bitsLt_bf16_f32

/-- The padded images the region finds. -/
theorem V31 : V m c main_v31 = padded (m ((c : Thread nD τ).loc main_arg0)) := by
  dsimp only [V, hostOps0, hostOps0_1, hostOps0_2, List.flatten_cons, List.flatten_nil, List.append_nil, List.cons_append, List.nil_append]
  after_results
  rfl

/-- The middle column of a weight's taps, side by side. -/
noncomputable def midCol (w : FVec Ideal S96x96x9 .f32) : FVec Ideal S96x288 .bf16 :=
  truncf .bf16 (concatenate S96x288 1
    [⟨S96x96, shapeCast S96x96 (extractStridedSlice S96x96x1x1 ![0, 0, 0, 1] (taps w) slices_S96x96x3x3_S96x96x1x1_0_0_0_1) shapeCasts_S96x96x1x1_S96x96⟩,
      ⟨S96x96, shapeCast S96x96 (extractStridedSlice S96x96x1x1 ![0, 0, 1, 1] (taps w) slices_S96x96x3x3_S96x96x1x1_0_0_1_1) shapeCasts_S96x96x1x1_S96x96⟩,
      ⟨S96x96, shapeCast S96x96 (extractStridedSlice S96x96x1x1 ![0, 0, 2, 1] (taps w) slices_S96x96x3x3_S96x96x1x1_0_0_2_1) shapeCasts_S96x96x1x1_S96x96⟩]
      concatenates_S96x96_S96x96_S96x96_S96x288_d1) bitsLt_bf16_f32

/-- The side taps of a weight's middle row, one above the other. -/
noncomputable def sides (w : FVec Ideal S96x96x9 .f32) : FVec Ideal S192x96 .bf16 :=
  truncf .bf16 (concatenate S192x96 0
    [⟨S96x96, shapeCast S96x96 (extractStridedSlice S96x96x1x1 ![0, 0, 1, 0] (taps w) slices_S96x96x3x3_S96x96x1x1_0_0_1_0) shapeCasts_S96x96x1x1_S96x96⟩,
      ⟨S96x96, shapeCast S96x96 (extractStridedSlice S96x96x1x1 ![0, 0, 1, 2] (taps w) slices_S96x96x3x3_S96x96x1x1_0_0_1_2) shapeCasts_S96x96x1x1_S96x96⟩]
      concatenates_S96x96_S96x96_S192x96_d0) bitsLt_bf16_f32

/-- What the region finds in `main_v26`. -/
theorem V26 : V m c main_v26 = midCol (m ((c : Thread nD τ).loc main_arg1)) := by
  dsimp only [V, hostOps0, hostOps0_1, hostOps0_2, List.flatten_cons, List.flatten_nil, List.append_nil, List.cons_append, List.nil_append]
  after_results
  rfl

/-- What the region finds in `main_v27`. -/
theorem V27 : V m c main_v27 = midCol (m ((c : Thread nD τ).loc main_arg2)) := by
  dsimp only [V, hostOps0, hostOps0_1, hostOps0_2, List.flatten_cons, List.flatten_nil, List.append_nil, List.cons_append, List.nil_append]
  after_results
  rfl

/-- What the region finds in `main_v28`. -/
theorem V28 : V m c main_v28 = sides (m ((c : Thread nD τ).loc main_arg1)) := by
  dsimp only [V, hostOps0, hostOps0_1, hostOps0_2, List.flatten_cons, List.flatten_nil, List.append_nil, List.cons_append, List.nil_append]
  after_results
  rfl

/-- What the region finds in `main_v29`. -/
theorem V29 : V m c main_v29 = sides (m ((c : Thread nD τ).loc main_arg2)) := by
  dsimp only [V, hostOps0, hostOps0_1, hostOps0_2, List.flatten_cons, List.flatten_nil, List.append_nil, List.cons_append, List.nil_append]
  after_results
  rfl

/-- The padded images of real images. -/
theorem padded_real {x : FVec Ideal S2x96x224x224 .f32} {u : Fin 2 → Img}
    (hx : ∀ b a r z, x (ix4 b a r z) = ((u b a r z : ℝ) : EReal)) (b : Fin 2) (a : Fin 96) (r : Fin 226) (z : Fin 256) :
    padded x (ix4 b a r z) = ((Net.pad (u b) a r.val z.val : ℝ) : EReal) := by
  pointwise [padded]
  unfold Net.pad
  by_cases h : (1 ≤ r.val ∧ r.val ≤ 224) ∧ (1 ≤ z.val ∧ z.val ≤ 224)
  · rw [dif_pos h, dif_pos (by omega), hx]
  · rw [dif_neg h, dif_neg (by omega)]
    show (((0#32 : BitVec 32).toInt : ℝ) : EReal) = _
    simp

/-- The literal's corner taps are zero. -/
theorem lit_corner : ∀ (k : Fin 9), lit0 (S9x3x3.rowMajor (ix3 k 0 0)) = 0#32 ∧ lit0 (S9x3x3.rowMajor (ix3 k 0 2)) = 0#32
    ∧ lit0 (S9x3x3.rowMajor (ix3 k 2 0)) = 0#32 ∧ lit0 (S9x3x3.rowMajor (ix3 k 2 2)) = 0#32 := by decide

/-- The literal's entries are finite. -/
theorem lit_finite : ∀ n, ((lit0 n).extractLsb' 23 8).toNat ≠ 255 := by decide

/-- The pattern of all zeros denotes zero. -/
theorem ofBits_zero : Ideal.ofBits .f32 0#32 = 0 := by
  simp [Ideal.ofBits, Ideal.ieee]

/-- Real coefficients have real taps. -/
theorem taps_real {w : FVec Ideal S96x96x9 .f32} (hw : ∀ i, ∃ r : ℝ, w i = (r : EReal)) (a j : Fin 96) (dy dx : Fin 3) :
    taps w (ix4 a j dy dx) = ((ker w a j dy dx : ℝ) : EReal) := by
  have h : ∃ r : ℝ, taps w (ix4 a j dy dx) = (r : EReal) := by
    rw [taps_apply]
    choose f hf using hw
    choose g hg using fun k : Fin 9 => Net.ofBits_f32_real (lit0 (S9x3x3.rowMajor (ix3 k dy dx))) (lit_finite _)
    simp only [hf, hg, ← EReal.coe_mul, ← Net.coe_sum]
    exact ⟨_, rfl⟩
  obtain ⟨r, hr⟩ := h
  rw [ker, hr, EReal.toReal_coe]

/-- The corner taps are zero. -/
theorem ker_corner (w : FVec Ideal S96x96x9 .f32) : NoCorner (ker w) := by
  intro a j
  have h : ∀ dy dx : Fin 3, (∀ k : Fin 9, lit0 (S9x3x3.rowMajor (ix3 k dy dx)) = 0#32) → ker w a j dy dx = 0 := by
    intro dy dx H
    simp only [ker, taps_apply, H, ofBits_zero, mul_zero, Finset.sum_const_zero, EReal.toReal_zero]
  exact ⟨h 0 0 fun k => (lit_corner k).1, h 0 2 fun k => (lit_corner k).2.1, h 2 0 fun k => (lit_corner k).2.2.1,
    h 2 2 fun k => (lit_corner k).2.2.2⟩

/-- The first weight window holds the middle column. -/
theorem midCol_real {w : FVec Ideal S96x96x9 .f32} (hw : ∀ i, ∃ r : ℝ, w i = (r : EReal)) : IsWa (ker w) (midCol w) := by
  intro a j
  refine ⟨Eq.trans ?_ (taps_real hw a j 0 1), Eq.trans ?_ (taps_real hw a j 1 1), Eq.trans ?_ (taps_real hw a j 2 1)⟩ <;>
    pointwise [midCol]

/-- The second weight window holds the side taps. -/
theorem sides_real {w : FVec Ideal S96x96x9 .f32} (hw : ∀ i, ∃ r : ℝ, w i = (r : EReal)) : IsWm (ker w) (sides w) := by
  intro a j
  refine ⟨Eq.trans ?_ (taps_real hw a j 1 0), Eq.trans ?_ (taps_real hw a j 1 2)⟩ <;>
    pointwise [sides]

/-- Window 0 is the whole of its array. -/
theorem iblk0 (t : Fin cfg0.N) : iblk m c 0 t = V m c main_v26 := by
  funext j
  unfold iblk
  refine congrArg (V m c main_v26) ?_
  funext b
  apply Fin.ext
  fin_cases b
  · show 0 * 96 + 1 * (j 0).val = (j 0).val
    omega
  · show 0 * 288 + 1 * (j 1).val = (j 1).val
    omega

/-- Window 1 is the whole of its array. -/
theorem iblk1 (t : Fin cfg0.N) : iblk m c 1 t = V m c main_v28 := by
  funext j
  unfold iblk
  refine congrArg (V m c main_v28) ?_
  funext b
  apply Fin.ext
  fin_cases b
  · show 0 * 192 + 1 * (j 0).val = (j 0).val
    omega
  · show 0 * 96 + 1 * (j 1).val = (j 1).val
    omega

/-- Window 2 is the whole of its array. -/
theorem iblk2 (t : Fin cfg0.N) : iblk m c 2 t = V m c main_v27 := by
  funext j
  unfold iblk
  refine congrArg (V m c main_v27) ?_
  funext b
  apply Fin.ext
  fin_cases b
  · show 0 * 96 + 1 * (j 0).val = (j 0).val
    omega
  · show 0 * 288 + 1 * (j 1).val = (j 1).val
    omega

/-- Window 3 is the whole of its array. -/
theorem iblk3 (t : Fin cfg0.N) : iblk m c 3 t = V m c main_v29 := by
  funext j
  unfold iblk
  refine congrArg (V m c main_v29) ?_
  funext b
  apply Fin.ext
  fin_cases b
  · show 0 * 192 + 1 * (j 0).val = (j 0).val
    omega
  · show 0 * 96 + 1 * (j 1).val = (j 1).val
    omega

/-- From real arguments the region finds the network's operands. -/
theorem operands {u : Fin 2 → Img}
    (hx : ∀ b a r z, (m ((c : Thread nD τ).loc main_arg0) : S2x96x224x224.Idx → EReal) (ix4 b a r z) = ((u b a r z : ℝ) : EReal))
    (h1 : ∀ i, ∃ r : ℝ, (m ((c : Thread nD τ).loc main_arg1) : S96x96x9.Idx → EReal) i = (r : EReal))
    (h2 : ∀ i, ∃ r : ℝ, (m ((c : Thread nD τ).loc main_arg2) : S96x96x9.Idx → EReal) i = (r : EReal)) :
    Operands m (ker (m ((c : Thread nD τ).loc main_arg1))) (ker (m ((c : Thread nD τ).loc main_arg2))) u c where
  corner1 := ker_corner _
  corner2 := ker_corner _
  image b a r z := (congrFun (V31 m c) _).trans (padded_real hx b a r z)
  wa1 t := by rw [iblk0, V26]; exact midCol_real h1
  wm1 t := by rw [iblk1, V28]; exact sides_real h1
  wa2 t := by rw [iblk2, V27]; exact midCol_real h2
  wm2 t := by rw [iblk3, V29]; exact sides_real h2

end Cert.KernelIdeal.Hand
-- ==== Proof.RVal.lean ====
module

public import proofs.«01_k».proof.Proof.Net
public import proofs.«01_k».proof.Proof.Gen.ReferenceIdeal.Run
public import Idealize.ShloMosaic.Lib.Pointwise

/-!
# What the reference computes on real numbers
-/

set_option maxRecDepth 16384

@[expose] public section

namespace Cert.ReferenceIdeal.Hand
open Cert.ReferenceIdeal Cert.ReferenceIdeal.Gen
open Idealize.ShloMosaic Idealize.ShloMosaic.TcCoe
open Cert.Net (Ker Img)

/-- One tap's product: the shifted padded images against the tap's matrix. -/
noncomputable def tapR (y z : ℕ) (hx : S2x96x226x226.Slices ![0, 0, y, z] S2x96x224x224) (hw : S96x96x3x3.Slices ![0, 0, y, z] S96x96x1x1)
    (x : FVec Ideal S2x96x226x226 .f32) (w : FVec Ideal S96x96x3x3 .f32) : FVec Ideal S2x96x224x224 .f32 :=
  transpose S2x96x224x224 [0, 3, 1, 2] (Host.dotGeneral dot_S2x96x224x224_S96x96_S2x224x224x96_1_1_023_0_n_n none
    (extractStridedSlice S2x96x224x224 ![0, 0, y, z] x hx)
    (shapeCast _ (extractStridedSlice S96x96x1x1 ![0, 0, y, z] w hw) shapeCasts_S96x96x1x1_S96x96)) transposes_S2x224x224x96_S2x96x224x224_0_3_1_2

/-- One tap's product, element by element. -/
theorem tapR_apply (y z : ℕ) (hy : y < 3) (hz : z < 3) (hx) (hw) (x : FVec Ideal S2x96x226x226 .f32) (w : FVec Ideal S96x96x3x3 .f32)
    (b : Fin 2) (a : Fin 96) (r c : Fin 224) :
    tapR y z hx hw x w (ix4 b a r c)
      = ∑ j : Fin 96, x (ix4 b j (⟨y + r.val, by omega⟩ : Fin 226) (⟨z + c.val, by omega⟩ : Fin 226)) * w (ix4 a j (⟨y, hy⟩ : Fin 3) (⟨z, hz⟩ : Fin 3)) := by
  pointwise [tapR]

/-- The convolution: the nine taps' products added. -/
noncomputable def convR (x : FVec Ideal S2x96x226x226 .f32) (w : FVec Ideal S96x96x3x3 .f32) : FVec Ideal S2x96x224x224 .f32 :=
  addf (addf (addf (addf (addf (addf (addf (addf (addf (broadcastInDim S2x96x224x224 ![] bcast_S_S2x96x224x224 (constant S_ .f32 0x00000000#32))
    (tapR 0 0 slices_S2x96x226x226_S2x96x224x224_0_0_0_0 slices_S96x96x3x3_S96x96x1x1_0_0_0_0 x w))
    (tapR 0 1 slices_S2x96x226x226_S2x96x224x224_0_0_0_1 slices_S96x96x3x3_S96x96x1x1_0_0_0_1 x w))
    (tapR 0 2 slices_S2x96x226x226_S2x96x224x224_0_0_0_2 slices_S96x96x3x3_S96x96x1x1_0_0_0_2 x w))
    (tapR 1 0 slices_S2x96x226x226_S2x96x224x224_0_0_1_0 slices_S96x96x3x3_S96x96x1x1_0_0_1_0 x w))
    (tapR 1 1 slices_S2x96x226x226_S2x96x224x224_0_0_1_1 slices_S96x96x3x3_S96x96x1x1_0_0_1_1 x w))
    (tapR 1 2 slices_S2x96x226x226_S2x96x224x224_0_0_1_2 slices_S96x96x3x3_S96x96x1x1_0_0_1_2 x w))
    (tapR 2 0 slices_S2x96x226x226_S2x96x224x224_0_0_2_0 slices_S96x96x3x3_S96x96x1x1_0_0_2_0 x w))
    (tapR 2 1 slices_S2x96x226x226_S2x96x224x224_0_0_2_1 slices_S96x96x3x3_S96x96x1x1_0_0_2_1 x w))
    (tapR 2 2 slices_S2x96x226x226_S2x96x224x224_0_0_2_2 slices_S96x96x3x3_S96x96x1x1_0_0_2_2 x w)

/-- The images with a border of zeros. -/
noncomputable def padR (x : FVec Ideal S2x96x224x224 .f32) : FVec Ideal S2x96x226x226 .f32 :=
  Idealize.ShloMosaic.pad S2x96x226x226 ![0, 0, 1, 1] ![0, 0, 1, 1] ![0, 0, 0, 0] x (sitofp .f32 (constantI S_ 32 0#32))
    pads_S2x96x224x224_S2x96x226x226_000_000_110_110 h_S_

/-- The channels' means. -/
noncomputable def meanR (v : FVec Ideal S2x96x224x224 .f32) : FVec Ideal S2x96x1x1 .f32 :=
  Host.divf (broadcastInDim S2x96x1x1 ![0, 1] bcast_S2x96_S2x96x1x1_0_1 (Host.reduceAdd v (constant S_ .f32 0x00000000#32) reducesTo_S2x96x224x224_S2x96_d2_3 h_S_)) (broadcastInDim S2x96x1x1 ![] bcast_S_S2x96x1x1 (constant S_ .f32 0x47440000#32))

/-- The images less their channels' means. -/
noncomputable def centR (v : FVec Ideal S2x96x224x224 .f32) : FVec Ideal S2x96x224x224 .f32 :=
  subf v (broadcastInDim S2x96x224x224 ![0, 1, 2, 3] bcast_S2x96x1x1_S2x96x224x224_0_1_2_3 (meanR v))

/-- The number of pixels, as the reference counts them. -/
noncomputable def countR : FVec Ideal S_ .f32 := subf (constant S_ .f32 0x47440000#32) (sitofp .f32 (constantI S_ 32 0#32))

/-- The channels' variances. -/
noncomputable def varR (v : FVec Ideal S2x96x224x224 .f32) : FVec Ideal S2x96x1x1 .f32 :=
  select (broadcastInDim S2x96x1x1 ![] bcast_S_S2x96x1x1 (cmpf .ogt countR (constant S_ .f32 0x00000000#32)))
    (Host.divf (broadcastInDim S2x96x1x1 ![0, 1] bcast_S2x96_S2x96x1x1_0_1 (Host.reduceAdd (mulf (centR v) (centR v)) (constant S_ .f32 0x00000000#32) reducesTo_S2x96x224x224_S2x96_d2_3 h_S_)) (broadcastInDim S2x96x1x1 ![] bcast_S_S2x96x1x1 countR))
    (broadcastInDim S2x96x1x1 ![] bcast_S_S2x96x1x1 (id (constant S_ .f32 0x7FC00000#32)))

/-- The normalised images. -/
noncomputable def normR (v : FVec Ideal S2x96x224x224 .f32) : FVec Ideal S2x96x224x224 .f32 :=
  Host.divf (centR v) (broadcastInDim S2x96x224x224 ![0, 1, 2, 3] bcast_S2x96x1x1_S2x96x224x224_0_1_2_3 (Host.sqrt (addf (varR v) (broadcastInDim S2x96x1x1 ![] bcast_S_S2x96x1x1 (constant S_ .f32 0x3727C5AC#32)))))

/-- The leaky unit. -/
noncomputable def leakyR (t : FVec Ideal S2x96x224x224 .f32) : FVec Ideal S2x96x224x224 .f32 :=
  select (cmpf .oge t (broadcastInDim S2x96x224x224 ![] bcast_S_S2x96x224x224 (constant S_ .f32 0x00000000#32))) t
    (mulf (broadcastInDim S2x96x224x224 ![] bcast_S_S2x96x224x224 (constant S_ .f32 0x3E4CCCCD#32)) t)

/-- Images holding real numbers. -/
def IsReal (u : Fin 2 → Img) (v : FVec Ideal S2x96x224x224 .f32) : Prop :=
  ∀ b a r z, v (ix4 b a r z) = ((u b a r z : ℝ) : EReal)

/-- The padded images of real images. -/
theorem padR_real {x : FVec Ideal S2x96x224x224 .f32} {u : Fin 2 → Img} (hx : IsReal u x) (b : Fin 2) (a : Fin 96) (r z : Fin 226) :
    padR x (ix4 b a r z) = ((Net.pad (u b) a r.val z.val : ℝ) : EReal) := by
  pointwise [padR]
  unfold Net.pad
  by_cases h : (1 ≤ r.val ∧ r.val ≤ 224) ∧ (1 ≤ z.val ∧ z.val ≤ 224)
  · rw [dif_pos h, dif_pos (by omega), hx]
  · rw [dif_neg h, dif_neg (by omega)]
    show (((0#32 : BitVec 32).toInt : ℝ) : EReal) = _
    simp

/-- One tap's product of real images. -/
theorem tapR_real {x : FVec Ideal S2x96x224x224 .f32} {u : Fin 2 → Img} {K : Ker} {w : FVec Ideal S96x96x3x3 .f32} (hx : IsReal u x)
    (hw : ∀ a j dy dx, w (ix4 a j dy dx) = ((K a j dy dx : ℝ) : EReal)) (y z : Fin 3) (h1) (h2) (b : Fin 2) (a : Fin 96) (r c : Fin 224) :
    tapR y.val z.val h1 h2 (padR x) w (ix4 b a r c)
      = ((∑ j : Fin 96, K a j y z * Net.pad (u b) j (r.val + y.val) (c.val + z.val) : ℝ) : EReal) := by
  rw [tapR_apply y.val z.val y.isLt z.isLt, Net.coe_sum]
  refine Finset.sum_congr rfl fun j _ => ?_
  rw [padR_real hx, hw, ← EReal.coe_mul, mul_comm]
  show ((K a j y z * Net.pad (u b) j (y.val + r.val) (z.val + c.val) : ℝ) : EReal) = _
  rw [Nat.add_comm y.val, Nat.add_comm z.val]

/-- The convolution of real images. -/
theorem convR_real {x : FVec Ideal S2x96x224x224 .f32} {u : Fin 2 → Img} {K : Ker} {w : FVec Ideal S96x96x3x3 .f32} (hx : IsReal u x)
    (hw : ∀ a j dy dx, w (ix4 a j dy dx) = ((K a j dy dx : ℝ) : EReal)) :
    IsReal (fun b => Net.conv K (u b)) (convR (padR x) w) := by
  intro b a r z
  pointwise [convR]
  have e := tapR_real hx hw
  refine (congrArg₂ (· + ·) (congrArg₂ (· + ·) (congrArg₂ (· + ·) (congrArg₂ (· + ·) (congrArg₂ (· + ·) (congrArg₂ (· + ·)
    (congrArg₂ (· + ·) (congrArg₂ (· + ·) (e 0 0 _ _ b a r z) (e 0 1 _ _ b a r z)) (e 0 2 _ _ b a r z)) (e 1 0 _ _ b a r z))
    (e 1 1 _ _ b a r z)) (e 1 2 _ _ b a r z)) (e 2 0 _ _ b a r z)) (e 2 1 _ _ b a r z)) (e 2 2 _ _ b a r z)).trans ?_
  simp only [← EReal.coe_add]
  unfold Net.conv
  simp only [Fin.sum_univ_three, ← add_assoc]

/-- A channel's mean. -/
theorem meanR_real {v : FVec Ideal S2x96x224x224 .f32} {u : Fin 2 → Img} (hv : IsReal u v) (b : Fin 2) (a : Fin 96) :
    meanR v (ix4 b a 0 0) = ((Net.mean (u b) a : ℝ) : EReal) := by
  pointwise [meanR]
  simp only [hv b a]
  simp only [← Net.coe_sum]
  rw [Net.count_coe, Ideal.div_coe (by norm_num), ← EReal.coe_mul, Net.mean, mul_one_div]

/-- A channel's variance. -/
theorem varR_real {v : FVec Ideal S2x96x224x224 .f32} {u : Fin 2 → Img} (hv : IsReal u v) (b : Fin 2) (a : Fin 96) :
    varR v (ix4 b a 0 0) = ((Net.var (u b) a : ℝ) : EReal) := by
  have hc : Ideal.ofBits .f32 1195638784#32 - (FloatOps.sitofp FTy.f32 (0#32 : BitVec 32) : Ideal .f32) = ((50176 : ℝ) : EReal) := by
    rw [Net.count_coe]
    show ((50176 : ℝ) : EReal) - (((0#32 : BitVec 32).toInt : ℝ) : EReal) = _
    simp
  pointwise [varR, countR, centR]
  rw [hc, if_pos (by exact_mod_cast (by norm_num : (0 : ℝ) < 50176)), Ideal.div_coe (by norm_num)]
  simp only [hv b a, meanR_real hv b a, ← EReal.coe_sub, ← EReal.coe_mul, ← Net.coe_sum]
  rw [Net.var, mul_one_div]

/-- The normalised images through the leaky unit. -/
theorem normR_real {v : FVec Ideal S2x96x224x224 .f32} {u : Fin 2 → Img} (hv : IsReal u v) :
    IsReal (fun b => Net.norm (u b)) (leakyR (normR v)) := by
  intro b a r z
  have h : normR v (ix4 b a r z) = (((u b a r z - Net.mean (u b) a) / Real.sqrt (Net.var (u b) a + Net.eps) : ℝ) : EReal) := by
    have hp : 0 < Net.var (u b) a + Net.eps := add_pos_of_nonneg_of_pos (Net.var_nonneg _ a) Net.eps_pos
    pointwise [normR, centR]
    rw [hv, meanR_real hv, varR_real hv, Net.eps_coe, ← EReal.coe_sub, ← EReal.coe_add, Ideal.sqrt_coe, if_neg (not_lt.mpr hp.le),
      Ideal.div_coe (ne_of_gt (Real.sqrt_pos.mpr hp)), ← EReal.coe_mul, mul_one_div]
  pointwise [leakyR]
  rw [h, Net.slope_coe, ← EReal.coe_mul]
  unfold Net.norm Net.leaky
  by_cases hn : 0 ≤ (u b a r z - Net.mean (u b) a) / Real.sqrt (Net.var (u b) a + Net.eps)
  · rw [if_pos hn, if_pos (EReal.coe_nonneg.mpr hn)]
  · rw [if_neg hn, if_neg (fun H => hn (EReal.coe_nonneg.mp H))]

/-- The first convolution, named. -/
theorem v56_eq (V0) : Value.res_main_v56 (F := Ideal) V0 = convR (padR (V0 (Proc.devRef .tc main_arg0))) (Value.res_main_v0 V0) := rfl

/-- The first normalisation, named. -/
theorem v68_eq (V0) : Value.res_main_v68 (F := Ideal) V0 = normR (Value.res_main_v56 V0) := rfl

/-- The second convolution, named. -/
theorem v130_eq (V0) : Value.res_main_v130 (F := Ideal) V0 = convR (padR (leakyR (Value.res_main_v68 V0))) (Value.res_main_v74 V0) := rfl

/-- The second normalisation, named. -/
theorem v142_eq (V0) : Value.res_main_v142 (F := Ideal) V0 = normR (Value.res_main_v130 V0) := rfl

/-- The reference's result on real arguments is the network's output. -/
theorem result_real {V0 : Valuation τ sig (Elt Ideal)} {u : Fin 2 → Img} {K1 K2 : Ker} (hx : IsReal u (V0 (Proc.devRef .tc main_arg0)))
    (h1 : ∀ a j dy dx, (Value.res_main_v0 V0 : S96x96x3x3.Idx → EReal) (ix4 a j dy dx) = ((K1 a j dy dx : ℝ) : EReal))
    (h2 : ∀ a j dy dx, (Value.res_main_v74 V0 : S96x96x3x3.Idx → EReal) (ix4 a j dy dx) = ((K2 a j dy dx : ℝ) : EReal)) :
    IsReal (fun b => Net.net K1 K2 (u b)) (leakyR (Value.res_main_v142 V0)) := by
  rw [v142_eq, v130_eq, v68_eq, v56_eq]
  exact normR_real (convR_real (normR_real (convR_real hx h1)) h2)

end Cert.ReferenceIdeal.Hand
-- ==== Proof.Finite.lean ====
module

public import proofs.«01_k».proof.Pre_finite_args
public import Idealize.ShloMosaic.PureOps.Ideal
public import Idealize.ShloMosaic.Lib.Pointwise
public import Idealize.ShloMosaic.Lib.ReduceAll

/-!
# What the precondition says: every argument is a real number
-/

@[expose] public section

namespace Cert.Pre_finite_args
open Idealize.ShloMosaic

/-- The predicate's side conditions hold. -/
theorem facts : Facts where
  bcast_S_S2x96x224x224 := by decide
  reducesTo_S2x96x224x224_S_d0_1_2_3 := by decide
  h_S_ := by decide
  bcast_S_S96x96x9 := by decide
  reducesTo_S96x96x9_S_d0_1_2 := by decide

/-- An extended real whose absolute value is below the infinite pattern is a real. -/
theorem real_of_lt {x : EReal} (h : FloatOps.cmpf (F := Ideal) (φ := .f32) .olt (FloatOps.hostAbsf x) (Ideal.ofBits .f32 0x7F800000#32) = 1#1) :
    ∃ r : ℝ, x = (r : EReal) := by
  have ht : Ideal.ofBits .f32 0x7F800000#32 = ⊤ := by
    simp [Ideal.ofBits, Ideal.ieee]
  rw [ht] at h
  replace h : Ideal.cmp .olt (max x (-x)) ⊤ = 1#1 := h
  induction x with
  | bot => exact absurd h (by simp [Ideal.cmp])
  | coe r => exact ⟨r, rfl⟩
  | top => exact absurd h (by simp [Ideal.cmp])

/-- A conjunction of two bits that is one has both bits one. -/
theorem and_bits : ∀ a b : BitVec 1, IntOp.andi a b = 1#1 → a = 1#1 ∧ b = 1#1 := by decide

/-- A scalar has one index. -/
instance : Subsingleton S_.Idx := ⟨fun a b => funext fun i => i.elim0⟩

attribute [local instance] facts in
/-- Under the precondition the arguments are real numbers. -/
theorem real_args {x : FVec Ideal S2x96x224x224 .f32} {w1 w2 : FVec Ideal S96x96x9 .f32} (h : fn (F := Ideal) x w1 w2 = fun _ => 1#1) :
    (∀ i, ∃ r : ℝ, x i = (r : EReal)) ∧ (∀ i, ∃ r : ℝ, w1 i = (r : EReal)) ∧ (∀ i, ∃ r : ℝ, w2 i = (r : EReal)) := by
  have h0 := congrFun h ix0
  unfold fn at h0
  dsimp only at h0
  obtain ⟨h01, h2⟩ := and_bits _ _ h0
  obtain ⟨hx, h1⟩ := and_bits _ _ h01
  exact ⟨fun i => real_of_lt (Host.reduce_andi_all _ _ _ _ _ hx i), fun i => real_of_lt (Host.reduce_andi_all _ _ _ _ _ h1 i),
    fun i => real_of_lt (Host.reduce_andi_all _ _ _ _ _ h2 i)⟩

end Cert.Pre_finite_args
-- ==== Proof.lean ====
/- The claim: the kernel and the two idealized programs keep their arguments and drain their semaphores, the idealized
   kernel is the kernel's own program over the extended reals, and on finite arguments its result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.FrameIdeal
public import proofs.«01_k».proof.Proof.KHost
public import proofs.«01_k».proof.Proof.RVal
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference is host operations alone: it runs, keeps its arguments, and the machine has no semaphore. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- On arguments of real numbers the kernel and the reference both end with the network's output. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.facts) := by
  intro m g m' g' hpre hagree
  have hreal := fun c => Cert.Pre_finite_args.real_args (hpre c)
  choose f hf using fun c => (hreal c).1
  let u : Dev Cert.KernelIdeal.nD → Fin 2 → Cert.Net.Img := fun c b a r z => f c (ix4 b a r z)
  let K1 := fun c : Dev Cert.KernelIdeal.nD =>
    Cert.KernelIdeal.Hand.ker (m ((c.tc : Thread Cert.KernelIdeal.nD Cert.KernelIdeal.τ).loc Cert.KernelIdeal.main_arg1))
  let K2 := fun c : Dev Cert.KernelIdeal.nD =>
    Cert.KernelIdeal.Hand.ker (m ((c.tc : Thread Cert.KernelIdeal.nD Cert.KernelIdeal.τ).loc Cert.KernelIdeal.main_arg2))
  refine ⟨fun c => Cert.KernelIdeal.Hand.netOut (K1 c) (K2 c) (u c), ?_, ?_⟩
  · exact Cert.KernelIdeal.Hand.value m g K1 K2 u fun c =>
      Cert.KernelIdeal.Hand.operands m c (fun b a r z => hf c (ix4 b a r z)) (hreal c).2.1 (hreal c).2.2
  · refine (θ_run _ _ _).mono (fun r h c => ⟨?_, (h c).2⟩) (Cert.ReferenceIdeal.Value.run (F := Ideal) m' g')
    refine (h c).1.trans ?_
    obtain ⟨e0, e1, e2⟩ := hagree c
    funext j
    obtain ⟨b, a, r, z, rfl⟩ : ∃ (b : Fin 2) (a : Fin 96) (r z : Fin 224), j = ix4 b a r z := ⟨j 0, j 1, j 2, j 3, eq_ix4 j⟩
    refine Cert.ReferenceIdeal.Hand.result_real (u := u c) (K1 := K1 c) (K2 := K2 c) ?_ ?_ ?_ b a r z
    · intro b a r z
      exact (congrFun e0 _).trans (hf c (ix4 b a r z))
    · intro a j dy dx
      refine Eq.trans ?_ (Cert.KernelIdeal.Hand.taps_real (hreal c).2.1 a j dy dx)
      exact congrFun (congrArg Cert.KernelIdeal.Hand.taps e1) _
    · intro a j dy dx
      refine Eq.trans ?_ (Cert.KernelIdeal.Hand.taps_real (hreal c).2.2 a j dy dx)
      exact congrFun (congrArg Cert.KernelIdeal.Hand.taps e2) _

/-- The certificate: the frames, that nothing was replaced, and the equal results. -/
theorem claim : Cert.Claim := ⟨Cert.Kernel.Gen.facts, Cert.KernelIdeal.Gen.facts, Cert.ReferenceIdeal.Gen.facts,
  Cert.Pre_finite_args.facts,
  fun m g _ => Cert.Kernel.Hand.frame (F := Bits) m g, fun m g _ => Cert.KernelIdeal.Hand.frame (F := Ideal) m g,
  fun m g _ => Cert.KernelIdeal.Hand.frame (F := Ideal) m g,
  frame_ReferenceIdeal, fun m g _ => frame_ReferenceIdeal m g trivial, trivial, algebraic⟩

end Cert.Proof

end
